-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_weights_finite [hPre_weights_finite : Cert.Pre_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_weights_finite [hPre_weights_finite : Cert.Pre_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_weights_finite [hKernelIdeal : Cert.KernelIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_weights_finite [hReferenceIdeal : Cert.ReferenceIdeal.Facts] [hPre_weights_finite : Cert.Pre_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_weights_finite [hKernelIdeal : Cert.KernelIdeal.Facts] [hReferenceIdeal : Cert.ReferenceIdeal.Facts] [hPre_weights_finite : Cert.Pre_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_weights_finite : Cert.Pre_weights_finite.Facts),
    quiescent_Kernel (hKernel := hKernel)
    ∧ quiescent_KernelIdeal (hKernelIdeal := hKernelIdeal)
    ∧ quiescent_KernelIdeal_pre_weights_finite (hKernelIdeal := hKernelIdeal) (hPre_weights_finite := hPre_weights_finite)
    ∧ quiescent_ReferenceIdeal (hReferenceIdeal := hReferenceIdeal)
    ∧ quiescent_ReferenceIdeal_pre_weights_finite (hReferenceIdeal := hReferenceIdeal) (hPre_weights_finite := hPre_weights_finite)
    ∧ preserves_Kernel_KernelIdeal
    ∧ algebraic_KernelIdeal_ReferenceIdeal_pre_weights_finite (hKernelIdeal := hKernelIdeal) (hReferenceIdeal := hReferenceIdeal) (hPre_weights_finite := hPre_weights_finite)
-- ==== Pre_weights_finite.lean ====
abbrev S1x2048x512 : Shape := ⟨3, ![1, 2048, 512]⟩
abbrev S2048 : Shape := ⟨1, ![2048]⟩
abbrev S2048x8 : Shape := ⟨2, ![2048, 8]⟩
abbrev S2048x512 : Shape := ⟨2, ![2048, 512]⟩
abbrev S512x1024 : Shape := ⟨2, ![512, 1024]⟩
abbrev S8x2048x512 : Shape := ⟨3, ![8, 2048, 512]⟩
abbrev S8x512x1024 : Shape := ⟨3, ![8, 512, 1024]⟩
abbrev S1024 : Shape := ⟨1, ![1024]⟩
abbrev S_ : Shape := ⟨0, ![]⟩
abbrev S2048x1 : Shape := ⟨2, ![2048, 1]⟩

class Facts : Prop where
  bcast_S_S2048 : S_.BroadcastsInDim S2048 (![] : Fin 0 → Fin S2048.rank)
  bcast_S2048_S2048x1_0 : S2048.BroadcastsInDim S2048x1 (![0] : Fin 1 → Fin S2048x1.rank)
  bcast_S_S2048x8 : S_.BroadcastsInDim S2048x8 (![] : Fin 0 → Fin S2048x8.rank)
  bcast_S2048x1_S2048x8_0_1 : S2048x1.BroadcastsInDim S2048x8 (![0, 1] : Fin 2 → Fin S2048x8.rank)

variable [Facts]

def fn {F : FTy → Type} [FloatOps F] (main_arg0 : FVec F S1x2048x512 .f32) (main_arg1 : FVec F S2048 .f32) (main_arg2 : FVec F S2048x8 .f32) (main_arg3 : FVec F S2048x512 .f32) (main_arg4 : FVec F S2048x512 .f32) (main_arg5 : FVec F S512x1024 .f32) (main_arg6 : FVec F S8x2048x512 .f32) (main_arg7 : FVec F S8x2048x512 .f32) (main_arg8 : FVec F S8x512x1024 .f32) (main_arg9 : FVec F S1024 .f32) (main_arg10 : FVec F S1024 .f32) : IVec S2048x8 1 :=
  let main_v0 : FVec F S2048 .f32 := Host.absf main_arg1
  let main_cst : FVec F S_ .f32 := constant S_ .f32 0x7F800000#32
  let main_v1 : FVec F S2048 .f32 := broadcastInDim S2048 ![] bcast_S_S2048 main_cst
  let main_v2 : IVec S2048 1 := cmpf .olt main_v0 main_v1
  let main_v3 : IVec S2048x1 1 := broadcastInDim S2048x1 ![0] bcast_S2048_S2048x1_0 main_v2
  let main_v4 : FVec F S2048x8 .f32 := Host.absf main_arg2
  let main_cst_0 : FVec F S_ .f32 := constant S_ .f32 0x7F800000#32
  let main_v5 : FVec F S2048x8 .f32 := broadcastInDim S2048x8 ![] bcast_S_S2048x8 main_cst_0
  let main_v6 : IVec S2048x8 1 := cmpf .olt main_v4 main_v5
  let main_v7 : IVec S2048x8 1 := broadcastInDim S2048x8 ![0, 1] bcast_S2048x1_S2048x8_0_1 main_v3
  let main_v8 : IVec S2048x8 1 := andi main_v7 main_v6
  main_v8
-- ==== Kernel.lean ====
abbrev S1x2048x512 : Shape := ⟨3, ![1, 2048, 512]⟩
abbrev S2048 : Shape := ⟨1, ![2048]⟩
abbrev S2048x8 : Shape := ⟨2, ![2048, 8]⟩
abbrev S2048x512 : Shape := ⟨2, ![2048, 512]⟩
abbrev S512x1024 : Shape := ⟨2, ![512, 1024]⟩
abbrev S8x2048x512 : Shape := ⟨3, ![8, 2048, 512]⟩
abbrev S8x512x1024 : Shape := ⟨3, ![8, 512, 1024]⟩
abbrev S1024 : Shape := ⟨1, ![1024]⟩
abbrev S512x2048 : Shape := ⟨2, ![512, 2048]⟩
abbrev S1x2048 : Shape := ⟨2, ![1, 2048]⟩
abbrev S1x1024 : Shape := ⟨2, ![1, 1024]⟩
abbrev S512x1 : Shape := ⟨2, ![512, 1]⟩
abbrev S3x2048x512 : Shape := ⟨3, ![3, 2048, 512]⟩
abbrev S3x512x1024 : Shape := ⟨3, ![3, 512, 1024]⟩
abbrev S3x2 : Shape := ⟨2, ![3, 2]⟩
abbrev S1x1 : Shape := ⟨2, ![1, 1]⟩
abbrev S_ : Shape := ⟨0, ![]⟩
abbrev S1x2048x256 : Shape := ⟨3, ![1, 2048, 256]⟩
abbrev S2048x256 : Shape := ⟨2, ![2048, 256]⟩
abbrev S1x256x1024 : Shape := ⟨3, ![1, 256, 1024]⟩
abbrev S256x1024 : Shape := ⟨2, ![256, 1024]⟩
abbrev S512 : Shape := ⟨1, ![512]⟩
abbrev S512x8 : Shape := ⟨2, ![512, 8]⟩
abbrev S512x512 : Shape := ⟨2, ![512, 512]⟩
abbrev S1x512x1024 : Shape := ⟨3, ![1, 512, 1024]⟩

abbrev nBuf : Space → Nat
  | .hbm => 17
  | .vmem => 17
  | .smem => 0
  | _ => 0

abbrev bufTy : (tb : Table) → Fin (tcTables nBuf tb) → BufTy
  | .hbm, ⟨0, _⟩ => ⟨S1x2048x512, .f32⟩
  | .hbm, ⟨1, _⟩ => ⟨S2048, .f32⟩
  | .hbm, ⟨2, _⟩ => ⟨S2048x8, .f32⟩
  | .hbm, ⟨3, _⟩ => ⟨S2048x512, .f32⟩
  | .hbm, ⟨4, _⟩ => ⟨S2048x512, .f32⟩
  | .hbm, ⟨5, _⟩ => ⟨S512x1024, .f32⟩
  | .hbm, ⟨6, _⟩ => ⟨S8x2048x512, .f32⟩
  | .hbm, ⟨7, _⟩ => ⟨S8x2048x512, .f32⟩
  | .hbm, ⟨8, _⟩ => ⟨S8x512x1024, .f32⟩
  | .hbm, ⟨9, _⟩ => ⟨S1024, .f32⟩
  | .hbm, ⟨10, _⟩ => ⟨S1024, .f32⟩
  | .hbm, ⟨11, _⟩ => ⟨S512x2048, .f32⟩
  | .hbm, ⟨12, _⟩ => ⟨S1x2048, .f32⟩
  | .hbm, ⟨13, _⟩ => ⟨S1x1024, .f32⟩
  | .hbm, ⟨14, _⟩ => ⟨S1x1024, .f32⟩
  | .hbm, ⟨15, _⟩ => ⟨S512x1024, .f32⟩
  | .hbm, ⟨16, _⟩ => ⟨S1x512x1024, .f32⟩
  | .local _ .vmem, ⟨0, _⟩ => ⟨S512x2048, .f32⟩
  | .local _ .vmem, ⟨1, _⟩ => ⟨S1x2048, .f32⟩
  | .local _ .vmem, ⟨2, _⟩ => ⟨S2048x8, .f32⟩
  | .local _ .vmem, ⟨3, _⟩ => ⟨S2048x512, .f32⟩
  | .local _ .vmem, ⟨4, _⟩ => ⟨S2048x512, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x2048, .bf16⟩
  | .local _ .vmem, ⟨10, _⟩ => ⟨S512x1, .i32⟩
  | .local _ .vmem, ⟨11, _⟩ => ⟨S512x1, .i32⟩
  | .local _ .vmem, ⟨12, _⟩ => ⟨S512x1, .f32⟩
  | .local _ .vmem, ⟨13, _⟩ => ⟨S512x1024, .f32⟩
  | .local _ .vmem, ⟨14, _⟩ => ⟨S3x2048x512, .f32⟩
  | .local _ .vmem, ⟨15, _⟩ => ⟨S3x2048x512, .f32⟩
  | .local _ .vmem, ⟨16, _⟩ => ⟨S3x512x1024, .f32⟩
  | _, _ => ⟨S1x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c3_i32 : BitVec 32 := 3#32
  let v3 : BitVec 32 := Scalar.remsi arg0 c3_i32
  let c0_i32_1 : BitVec 32 := 0#32
  ![v3.toNat, 0]
def k0_off2 (i : grid0.Coords) : Fin 3 → Nat :=
  let arg0 : BitVec 32 := BitVec.ofNat 32 (i 0).val
  let c3_i32 : BitVec 32 := 3#32
  let v3 : BitVec 32 := Scalar.remsi arg0 c3_i32
  let c0_i32_2 : BitVec 32 := 0#32
  let c0_i32_3 : BitVec 32 := 0#32
  ![v3.toNat, 0, 0]
def k0_off3 (i : grid0.Coords) : Fin 3 → Nat :=
  let arg0 : BitVec 32 := BitVec.ofNat 32 (i 0).val
  let c0_i32_4 : BitVec 32 := 0#32
  let c0_i32_5 : BitVec 32 := 0#32
  ![arg0.toNat, 0, 0]
def k0_off4 (i : grid0.Coords) : Fin 2 → Nat :=
  let arg0 : BitVec 32 := BitVec.ofNat 32 (i 0).val
  let c3_i32 : BitVec 32 := 3#32
  let v3 : BitVec 32 := Scalar.remsi arg0 c3_i32
  let c1_i32 : BitVec 32 := 1#32
  ![v3.toNat, 1]
def k0_off5 (i : grid0.Coords) : Fin 3 → Nat :=
  let arg0 : BitVec 32 := BitVec.ofNat 32 (i 0).val
  let c3_i32 : BitVec 32 := 3#32
  let v3 : BitVec 32 := Scalar.remsi arg0 c3_i32
  let c0_i32_6 : BitVec 32 := 0#32
  let c256_i32 : BitVec 32 := 256#32
  ![v3.toNat, 0, 256]
def k0_off6 (i : grid0.Coords) : Fin 3 → Nat :=
  let arg0 : BitVec 32 := BitVec.ofNat 32 (i 0).val
  let c0_i32_7 : BitVec 32 := 0#32
  let c256_i32_8 : BitVec 32 := 256#32
  ![arg0.toNat, 0, 256]
def k0_off7 (i : grid0.Coords) : Fin 3 → Nat :=
  let arg0 : BitVec 32 := BitVec.ofNat 32 (i 0).val
  let c3_i32 : BitVec 32 := 3#32
  let v3 : BitVec 32 := Scalar.remsi arg0 c3_i32
  let c0_i32_20 : BitVec 32 := 0#32
  let c0_i32_21 : BitVec 32 := 0#32
  ![v3.toNat, 0, 0]
def k0_off8 (i : grid0.Coords) : Fin 3 → Nat :=
  let arg0 : BitVec 32 := BitVec.ofNat 32 (i 0).val
  let c0_i32_22 : BitVec 32 := 0#32
  let c0_i32_23 : BitVec 32 := 0#32
  ![arg0.toNat, 0, 0]
def k0_off9 (i : grid0.Coords) : Fin 3 → Nat :=
  let arg0 : BitVec 32 := BitVec.ofNat 32 (i 0).val
  let c3_i32 : BitVec 32 := 3#32
  let v3 : BitVec 32 := Scalar.remsi arg0 c3_i32
  let c256_i32_25 : BitVec 32 := 256#32
  let c0_i32_26 : BitVec 32 := 0#32
  ![v3.toNat, 256, 0]
def k0_off10 (i : grid0.Coords) : Fin 3 → Nat :=
  let arg0 : BitVec 32 := BitVec.ofNat 32 (i 0).val
  let c256_i32_27 : BitVec 32 := 256#32
  let c0_i32_28 : BitVec 32 := 0#32
  ![arg0.toNat, 256, 0]
def k0_off11 (i : grid0.Coords) : Fin 3 → Nat :=
  let arg0 : BitVec 32 := BitVec.ofNat 32 (i 0).val
  let c3_i32 : BitVec 32 := 3#32
  let v3 : BitVec 32 := Scalar.remsi arg0 c3_i32
  let v41 : Index := Scalar.indexCast v3
  let c0_30 : Index := 0#32
  let c0_31 : Index := 0#32
  ![v41.toNat, 0, 0]
def k0_off12 (i : grid0.Coords) : Fin 3 → Nat :=
  let arg0 : BitVec 32 := BitVec.ofNat 32 (i 0).val
  let c3_i32 : BitVec 32 := 3#32
  let v3 : BitVec 32 := Scalar.remsi arg0 c3_i32
  let v72 : Index := Scalar.indexCast v3
  let c0_46 : Index := 0#32
  let c0_47 : Index := 0#32
  ![v72.toNat, 0, 0]
def k0_cond2 (i : grid0.Coords) : BitVec 1 :=
  let arg0 : BitVec 32 := BitVec.ofNat 32 (i 0).val
  let c3_i32_51 : BitVec 32 := 3#32
  let v81 : BitVec 32 := Scalar.addi arg0 c3_i32_51
  let c8_i32 : BitVec 32 := 8#32
  let v82 : BitVec 1 := Scalar.cmpi .slt v81 c8_i32
  let v83 : BitVec 32 := Scalar.extui v82
  let c0_i32_52 : BitVec 32 := 0#32
  let v84 : BitVec 1 := Scalar.cmpi .ne v83 c0_i32_52
  v84

def k0_off13 (i : grid0.Coords) : Fin 2 → Nat :=
  let arg0 : BitVec 32 := BitVec.ofNat 32 (i 0).val
  let c3_i32 : BitVec 32 := 3#32
  let v3 : BitVec 32 := Scalar.remsi arg0 c3_i32
  let c0_i32_55 : BitVec 32 := 0#32
  ![v3.toNat, 0]
def k0_off14 (i : grid0.Coords) : Fin 3 → Nat :=
  let arg0 : BitVec 32 := BitVec.ofNat 32 (i 0).val
  let c3_i32 : BitVec 32 := 3#32
  let v3 : BitVec 32 := Scalar.remsi arg0 c3_i32
  let c0_i32_56 : BitVec 32 := 0#32
  let c0_i32_57 : BitVec 32 := 0#32
  ![v3.toNat, 0, 0]
def k0_off15 (i : grid0.Coords) : Fin 3 → Nat :=
  let arg0 : BitVec 32 := BitVec.ofNat 32 (i 0).val
  let c3_i32_54 : BitVec 32 := 3#32
  let v88 : BitVec 32 := Scalar.addi arg0 c3_i32_54
  let c0_i32_58 : BitVec 32 := 0#32
  let c0_i32_59 : BitVec 32 := 0#32
  ![v88.toNat, 0, 0]
def k0_off16 (i : grid0.Coords) : Fin 2 → Nat :=
  let arg0 : BitVec 32 := BitVec.ofNat 32 (i 0).val
  let c3_i32 : BitVec 32 := 3#32
  let v3 : BitVec 32 := Scalar.remsi arg0 c3_i32
  let c1_i32_60 : BitVec 32 := 1#32
  ![v3.toNat, 1]
def k0_off17 (i : grid0.Coords) : Fin 3 → Nat :=
  let arg0 : BitVec 32 := BitVec.ofNat 32 (i 0).val
  let c3_i32 : BitVec 32 := 3#32
  let v3 : BitVec 32 := Scalar.remsi arg0 c3_i32
  let c0_i32_61 : BitVec 32 := 0#32
  let c256_i32_62 : BitVec 32 := 256#32
  ![v3.toNat, 0, 256]
def k0_off18 (i : grid0.Coords) : Fin 3 → Nat :=
  let arg0 : BitVec 32 := BitVec.ofNat 32 (i 0).val
  let c3_i32_54 : BitVec 32 := 3#32
  let v88 : BitVec 32 := Scalar.addi arg0 c3_i32_54
  let c0_i32_63 : BitVec 32 := 0#32
  let c256_i32_64 : BitVec 32 := 256#32
  ![v88.toNat, 0, 256]
def k0_off19 (i : grid0.Coords) : Fin 3 → Nat :=
  let arg0 : BitVec 32 := BitVec.ofNat 32 (i 0).val
  let c3_i32 : BitVec 32 := 3#32
  let v3 : BitVec 32 := Scalar.remsi arg0 c3_i32
  let c0_i32_76 : BitVec 32 := 0#32
  let c0_i32_77 : BitVec 32 := 0#32
  ![v3.toNat, 0, 0]
def k0_off20 (i : grid0.Coords) : Fin 3 → Nat :=
  let arg0 : BitVec 32 := BitVec.ofNat 32 (i 0).val
  let c3_i32_54 : BitVec 32 := 3#32
  let v88 : BitVec 32 := Scalar.addi arg0 c3_i32_54
  let c0_i32_78 : BitVec 32 := 0#32
  let c0_i32_79 : BitVec 32 := 0#32
  ![v88.toNat, 0, 0]
def k0_off21 (i : grid0.Coords) : Fin 3 → Nat :=
  let arg0 : BitVec 32 := BitVec.ofNat 32 (i 0).val
  let c3_i32 : BitVec 32 := 3#32
  let v3 : BitVec 32 := Scalar.remsi arg0 c3_i32
  let c256_i32_81 : BitVec 32 := 256#32
  let c0_i32_82 : BitVec 32 := 0#32
  ![v3.toNat, 256, 0]
def k0_off22 (i : grid0.Coords) : Fin 3 → Nat :=
  let arg0 : BitVec 32 := BitVec.ofNat 32 (i 0).val
  let c3_i32_54 : BitVec 32 := 3#32
  let v88 : BitVec 32 := Scalar.addi arg0 c3_i32_54
  let c256_i32_83 : BitVec 32 := 256#32
  let c0_i32_84 : BitVec 32 := 0#32
  ![v88.toNat, 256, 0]
def k0_cond3 (i : grid0.Coords) : BitVec 1 :=
  let arg0 : BitVec 32 := BitVec.ofNat 32 (i 0).val
  let c7_i32 : BitVec 32 := 7#32
  let v85 : BitVec 1 := Scalar.cmpi .eq arg0 c7_i32
  let v86 : BitVec 32 := Scalar.extui v85
  let c0_i32_53 : BitVec 32 := 0#32
  let v87 : BitVec 1 := Scalar.cmpi .ne v86 c0_i32_53
  v87

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S1x2048x512 : Shape := ⟨3, ![1, 2048, 512]⟩
abbrev S2048 : Shape := ⟨1, ![2048]⟩
abbrev S2048x8 : Shape := ⟨2, ![2048, 8]⟩
abbrev S2048x512 : Shape := ⟨2, ![2048, 512]⟩
abbrev S512x1024 : Shape := ⟨2, ![512, 1024]⟩
abbrev S8x2048x512 : Shape := ⟨3, ![8, 2048, 512]⟩
abbrev S8x512x1024 : Shape := ⟨3, ![8, 512, 1024]⟩
abbrev S1024 : Shape := ⟨1, ![1024]⟩
abbrev S1x512x2048 : Shape := ⟨3, ![1, 512, 2048]⟩
abbrev S_ : Shape := ⟨0, ![]⟩
abbrev S1x512 : Shape := ⟨2, ![1, 512]⟩
abbrev S1x512x1 : Shape := ⟨3, ![1, 512, 1]⟩
abbrev S1x1x2048 : Shape := ⟨3, ![1, 1, 2048]⟩
abbrev S1x512x512 : Shape := ⟨3, ![1, 512, 512]⟩
abbrev S1x512x1024 : Shape := ⟨3, ![1, 512, 1024]⟩
abbrev S512x2048 : Shape := ⟨2, ![512, 2048]⟩
abbrev S512x8 : Shape := ⟨2, ![512, 8]⟩
abbrev S512 : Shape := ⟨1, ![512]⟩
abbrev S512x1 : Shape := ⟨2, ![512, 1]⟩
abbrev S512x2 : Shape := ⟨2, ![512, 2]⟩
abbrev S8x512x512 : Shape := ⟨3, ![8, 512, 512]⟩
abbrev S512x2x1 : Shape := ⟨3, ![512, 2, 1]⟩
abbrev S1x1x8 : Shape := ⟨3, ![1, 1, 8]⟩
abbrev S512x2x8 : Shape := ⟨3, ![512, 2, 8]⟩
abbrev S8x512 : Shape := ⟨2, ![8, 512]⟩
abbrev S1x1x1024 : Shape := ⟨3, ![1, 1, 1024]⟩

abbrev nBuf : Space → Nat
  | .hbm => 109
  | .vmem => 0
  | .smem => 0
  | _ => 0

abbrev bufTy : (tb : Table) → Fin (tcTables nBuf tb) → BufTy
  | .hbm, ⟨0, _⟩ => ⟨S1x2048x512, .f32⟩
  | .hbm, ⟨1, _⟩ => ⟨S2048, .f32⟩
  | .hbm, ⟨2, _⟩ => ⟨S2048x8, .f32⟩
  | .hbm, ⟨3, _⟩ => ⟨S2048x512, .f32⟩
  | .hbm, ⟨4, _⟩ => ⟨S2048x512, .f32⟩
  | .hbm, ⟨5, _⟩ => ⟨S512x1024, .f32⟩
  | .hbm, ⟨6, _⟩ => ⟨S8x2048x512, .f32⟩
  | .hbm, ⟨7, _⟩ => ⟨S8x2048x512, .f32⟩
  | .hbm, ⟨8, _⟩ => ⟨S8x512x1024, .f32⟩
  | .hbm, ⟨9, _⟩ => ⟨S1024, .f32⟩
  | .hbm, ⟨10, _⟩ => ⟨S1024, .f32⟩
  | .hbm, ⟨11, _⟩ => ⟨S1x512x2048, .f32⟩
  | .hbm, ⟨12, _⟩ => ⟨S1x512x2048, .f32⟩
  | .hbm, ⟨13, _⟩ => ⟨S_, .f32⟩
  | .hbm, ⟨14, _⟩ => ⟨S1x512, .f32⟩
  | .hbm, ⟨15, _⟩ => ⟨S1x512x1, .f32⟩
  | .hbm, ⟨16, _⟩ => ⟨S_, .f32⟩
  | .hbm, ⟨17, _⟩ => ⟨S1x512x1, .f32⟩
  | .hbm, ⟨18, _⟩ => ⟨S1x512x1, .f32⟩
  | .hbm, ⟨19, _⟩ => ⟨S_, .f32⟩
  | .hbm, ⟨20, _⟩ => ⟨S1x512x1, .f32⟩
  | .hbm, ⟨21, _⟩ => ⟨S1x512x1, .f32⟩
  | .hbm, ⟨22, _⟩ => ⟨S1x512x1, .f32⟩
  | .hbm, ⟨23, _⟩ => ⟨S1x512x2048, .f32⟩
  | .hbm, ⟨24, _⟩ => ⟨S1x512x2048, .f32⟩
  | .hbm, ⟨25, _⟩ => ⟨S1x1x2048, .f32⟩
  | .hbm, ⟨26, _⟩ => ⟨S1x512x2048, .f32⟩
  | .hbm, ⟨27, _⟩ => ⟨S1x512x2048, .f32⟩
  | .hbm, ⟨28, _⟩ => ⟨S1x512x512, .f32⟩
  | .hbm, ⟨29, _⟩ => ⟨S1x512x512, .f32⟩
  | .hbm, ⟨30, _⟩ => ⟨S1x512x512, .f32⟩
  | .hbm, ⟨31, _⟩ => ⟨S_, .f32⟩
  | .hbm, ⟨32, _⟩ => ⟨S1x512x512, .f32⟩
  | .hbm, ⟨33, _⟩ => ⟨S1x512x512, .f32⟩
  | .hbm, ⟨34, _⟩ => ⟨S_, .f32⟩
  | .hbm, ⟨35, _⟩ => ⟨S1x512x512, .f32⟩
  | .hbm, ⟨36, _⟩ => ⟨S1x512x512, .f32⟩
  | .hbm, ⟨37, _⟩ => ⟨S1x512x512, .f32⟩
  | .hbm, ⟨38, _⟩ => ⟨S1x512x512, .f32⟩
  | .hbm, ⟨39, _⟩ => ⟨S1x512x512, .f32⟩
  | .hbm, ⟨40, _⟩ => ⟨S1x512x1024, .f32⟩
  | .hbm, ⟨41, _⟩ => ⟨S512x2048, .f32⟩
  | .hbm, ⟨42, _⟩ => ⟨S512x8, .f32⟩
  | .hbm, ⟨43, _⟩ => ⟨S_, .f32⟩
  | .hbm, ⟨44, _⟩ => ⟨S512, .f32⟩
  | .hbm, ⟨45, _⟩ => ⟨S_, .f32⟩
  | .hbm, ⟨46, _⟩ => ⟨S512, .f32⟩
  | .hbm, ⟨47, _⟩ => ⟨S512, .f32⟩
  | .hbm, ⟨48, _⟩ => ⟨S512x1, .f32⟩
  | .hbm, ⟨49, _⟩ => ⟨S512x8, .f32⟩
  | .hbm, ⟨50, _⟩ => ⟨S512x8, .f32⟩
  | .hbm, ⟨51, _⟩ => ⟨S512x8, .f32⟩
  | .hbm, ⟨52, _⟩ => ⟨S_, .f32⟩
  | .hbm, ⟨53, _⟩ => ⟨S512, .f32⟩
  | .hbm, ⟨54, _⟩ => ⟨S512x1, .f32⟩
  | .hbm, ⟨55, _⟩ => ⟨S512x8, .f32⟩
  | .hbm, ⟨56, _⟩ => ⟨S512x8, .f32⟩
  | .hbm, ⟨57, _⟩ => ⟨S512x2, .f32⟩
  | .hbm, ⟨58, _⟩ => ⟨S512x2, .i32⟩
  | .hbm, ⟨59, _⟩ => ⟨S_, .f32⟩
  | .hbm, ⟨60, _⟩ => ⟨S512, .f32⟩
  | .hbm, ⟨61, _⟩ => ⟨S512x1, .f32⟩
  | .hbm, ⟨62, _⟩ => ⟨S512x2, .f32⟩
  | .hbm, ⟨63, _⟩ => ⟨S512x2, .f32⟩
  | .hbm, ⟨64, _⟩ => ⟨S8x512x512, .f32⟩
  | .hbm, ⟨65, _⟩ => ⟨S8x512x512, .f32⟩
  | .hbm, ⟨66, _⟩ => ⟨S8x512x512, .f32⟩
  | .hbm, ⟨67, _⟩ => ⟨S8x512x512, .f32⟩
  | .hbm, ⟨68, _⟩ => ⟨S8x512x512, .f32⟩
  | .hbm, ⟨69, _⟩ => ⟨S8x512x512, .f32⟩
  | .hbm, ⟨70, _⟩ => ⟨S_, .f32⟩
  | .hbm, ⟨71, _⟩ => ⟨S8x512x512, .f32⟩
  | .hbm, ⟨72, _⟩ => ⟨S8x512x512, .f32⟩
  | .hbm, ⟨73, _⟩ => ⟨S_, .f32⟩
  | .hbm, ⟨74, _⟩ => ⟨S8x512x512, .f32⟩
  | .hbm, ⟨75, _⟩ => ⟨S8x512x512, .f32⟩
  | .hbm, ⟨76, _⟩ => ⟨S8x512x512, .f32⟩
  | .hbm, ⟨77, _⟩ => ⟨S8x512x512, .f32⟩
  | .hbm, ⟨78, _⟩ => ⟨S8x512x1024, .f32⟩
  | .hbm, ⟨79, _⟩ => ⟨S512x2x1, .i32⟩
  | .hbm, ⟨80, _⟩ => ⟨S1x1x8, .i32⟩
  | .hbm, ⟨81, _⟩ => ⟨S512x2x8, .i32⟩
  | .hbm, ⟨82, _⟩ => ⟨S512x2x8, .i32⟩
  | .hbm, ⟨83, _⟩ => ⟨S512x2x8, .i1⟩
  | .hbm, ⟨84, _⟩ => ⟨S512x2x8, .f32⟩
  | .hbm, ⟨85, _⟩ => ⟨S512x8, .f32⟩
  | .hbm, ⟨86, _⟩ => ⟨S8x512, .f32⟩
  | .hbm, ⟨87, _⟩ => ⟨S512x1024, .f32⟩
  | .hbm, ⟨88, _⟩ => ⟨S1x512x1024, .f32⟩
  | .hbm, ⟨89, _⟩ => ⟨S1x512x1024, .f32⟩
  | .hbm, ⟨90, _⟩ => ⟨S1x1x1024, .f32⟩
  | .hbm, ⟨91, _⟩ => ⟨S1x512x1024, .f32⟩
  | .hbm, ⟨92, _⟩ => ⟨S1x512x1024, .f32⟩
  | .hbm, ⟨93, _⟩ => ⟨S1x512x1024, .f32⟩
  | .hbm, ⟨94, _⟩ => ⟨S_, .f32⟩
  | .hbm, ⟨95, _⟩ => ⟨S1x512, .f32⟩
  | .hbm, ⟨96, _⟩ => ⟨S1x512x1, .f32⟩
  | .hbm, ⟨97, _⟩ => ⟨S_, .f32⟩
  | .hbm, ⟨98, _⟩ => ⟨S1x512x1, .f32⟩
  | .hbm, ⟨99, _⟩ => ⟨S1x512x1, .f32⟩
  | .hbm, ⟨100, _⟩ => ⟨S_, .f32⟩
  | .hbm, ⟨101, _⟩ => ⟨S1x512x1, .f32⟩
  | .hbm, ⟨102, _⟩ => ⟨S1x512x1, .f32⟩
  | .hbm, ⟨103, _⟩ => ⟨S1x512x1, .f32⟩
  | .hbm, ⟨104, _⟩ => ⟨S1x512x1024, .f32⟩
  | .hbm, ⟨105, _⟩ => ⟨S1x512x1024, .f32⟩
  | .hbm, ⟨106, _⟩ => ⟨S1x1x1024, .f32⟩
  | .hbm, ⟨107, _⟩ => ⟨S1x512x1024, .f32⟩
  | .hbm, ⟨108, _⟩ => ⟨S1x512x1024, .f32⟩
  | _, _ => ⟨S1x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_2 : Ref sig .tc := ⟨.hbm, 43, rfl⟩
abbrev main_v21 : Ref sig .tc := ⟨.hbm, 44, rfl⟩
abbrev main_cst_3 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_cst_4 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_values : Ref sig .tc := ⟨.hbm, 57, rfl⟩
abbrev main_indices : Ref sig .tc := ⟨.hbm, 58, rfl⟩
abbrev main_cst_5 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_call1_v0 : Ref sig .tc := ⟨.hbm, 68, rfl⟩
abbrev main_call1_v1 : Ref sig .tc := ⟨.hbm, 69, rfl⟩
abbrev main_call1_cst : Ref sig .tc := ⟨.hbm, 70, rfl⟩
abbrev main_call1_v2 : Ref sig .tc := ⟨.hbm, 71, rfl⟩
abbrev main_call1_v3 : Ref sig .tc := ⟨.hbm, 72, rfl⟩
abbrev main_call1_cst_0 : Ref sig .tc := ⟨.hbm, 73, rfl⟩
abbrev main_call1_v4 : Ref sig .tc := ⟨.hbm, 74, rfl⟩
abbrev main_call1_v5 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_cst_6 : Ref sig .tc := ⟨.hbm, 94, rfl⟩
abbrev main_v53 : Ref sig .tc := ⟨.hbm, 95, rfl⟩
abbrev main_v54 : Ref sig .tc := ⟨.hbm, 96, rfl⟩
abbrev main_cst_7 : Ref sig .tc := ⟨.hbm, 97, rfl⟩
abbrev main_v55 : Ref sig .tc := ⟨.hbm, 98, rfl⟩
abbrev main_v56 : Ref sig .tc := ⟨.hbm, 99, rfl⟩
abbrev main_cst_8 : Ref sig .tc := ⟨.hbm, 100, rfl⟩
abbrev main_v57 : Ref sig .tc := ⟨.hbm, 101, rfl⟩
abbrev main_v58 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩

abbrev nD : Nat := 1
abbrev τ : Topo := Topo.v7x

variable {F : FTy → Type} [FloatOps F]
-- ==== Proof.Slots.lean ====
/-
  The names of the ring of transfers: the two halves of a ring slot, the two halves of an expert's block in HBM, the
  semaphore cell each half is paid on, and a whole slot as the body loads it. Everything is named by a natural number `n`:
  slot `n % 3`, block `n % 8`, so that the slot of step `n + 3` is the slot of step `n`.

  A gate or up block (2048 by 512) is cut by columns, a down block (512 by 1024) by rows; the two families are `A` and `B`.
-/
module

public import proofs.«01_k».proof.Proof.Gen.KernelIdeal.Frame
public import proofs.«01_k».proof.Proof.Gen.KernelIdeal.Skeleton

@[expose] public section

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Offsets -/

abbrev offA (n : ℕ) (h : Fin 2) : Fin 3 → ℕ := ![n, 0, 256 * h.val]
abbrev offB (n : ℕ) (h : Fin 2) : Fin 3 → ℕ := ![n, 256 * h.val, 0]
abbrev offW (n : ℕ) : Fin 3 → ℕ := ![n, 0, 0]
abbrev offC (n : ℕ) (h : Fin 2) : Fin 2 → ℕ := ![n, h.val]

theorem offA_slot (n : ℕ) (h : Fin 2) : ∀ a, offA (n % 3) h a + S1x2048x256.size a ≤ S3x2048x512.size a := by
  have := Nat.mod_lt n (show 0 < 3 by decide); have := h.isLt; intro a; fin_cases a
  · show n % 3 + 1 ≤ 3; omega
  · show 0 + 2048 ≤ 2048; omega
  · show 256 * h.val + 256 ≤ 512; omega
theorem offA_grp (n : ℕ) (h : Fin 2) : ∀ a, offA (n % 8) h a + S1x2048x256.size a ≤ S8x2048x512.size a := by
  have := Nat.mod_lt n (show 0 < 8 by decide); have := h.isLt; intro a; fin_cases a
  · show n % 8 + 1 ≤ 8; omega
  · show 0 + 2048 ≤ 2048; omega
  · show 256 * h.val + 256 ≤ 512; omega
theorem offB_slot (n : ℕ) (h : Fin 2) : ∀ a, offB (n % 3) h a + S1x256x1024.size a ≤ S3x512x1024.size a := by
  have := Nat.mod_lt n (show 0 < 3 by decide); have := h.isLt; intro a; fin_cases a
  · show n % 3 + 1 ≤ 3; omega
  · show 256 * h.val + 256 ≤ 512; omega
  · show 0 + 1024 ≤ 1024; omega
theorem offB_grp (n : ℕ) (h : Fin 2) : ∀ a, offB (n % 8) h a + S1x256x1024.size a ≤ S8x512x1024.size a := by
  have := Nat.mod_lt n (show 0 < 8 by decide); have := h.isLt; intro a; fin_cases a
  · show n % 8 + 1 ≤ 8; omega
  · show 256 * h.val + 256 ≤ 512; omega
  · show 0 + 1024 ≤ 1024; omega
theorem offW_A (n : ℕ) : ∀ a, offW (n % 3) a + S1x2048x512.size a ≤ S3x2048x512.size a := by
  have := Nat.mod_lt n (show 0 < 3 by decide); intro a; fin_cases a
  · show n % 3 + 1 ≤ 3; omega
  · show 0 + 2048 ≤ 2048; omega
  · show 0 + 512 ≤ 512; omega
theorem offW_B (n : ℕ) : ∀ a, offW (n % 3) a + S1x512x1024.size a ≤ S3x512x1024.size a := by
  have := Nat.mod_lt n (show 0 < 3 by decide); intro a; fin_cases a
  · show n % 3 + 1 ≤ 3; omega
  · show 0 + 512 ≤ 512; omega
  · show 0 + 1024 ≤ 1024; omega
theorem offC_inb (n : ℕ) (h : Fin 2) : ∀ a, offC (n % 3) h a + S1x1.size a ≤ S3x2.size a := by
  have := Nat.mod_lt n (show 0 < 3 by decide); have := h.isLt; intro a; fin_cases a
  · show n % 3 + 1 ≤ 3; omega
  · show h.val + 1 ≤ 2; omega

/-! ## Names -/

abbrev RingA := Memref sig .tc .vmem S3x2048x512 .f32
abbrev RingB := Memref sig .tc .vmem S3x512x1024 .f32
abbrev SrcA := Memref sig .tc .hbm S8x2048x512 .f32
abbrev SrcB := Memref sig .tc .hbm S8x512x1024 .f32

/-- Half `h` of slot `n % 3` of a gate or up ring. -/
def halfA (M : RingA) (n : ℕ) (h : Fin 2) : Memref sig .tc .vmem S2048x256 .f32 :=
  (M.slice (Rect.unit (s := S3x2048x512) (offA (n % 3) h) S1x2048x256.size (offA_slot n h)) (fun _ => rfl)).squeeze S2048x256 squeezes_S1x2048x256_S2048x256
/-- Half `h` of slot `n % 3` of the down ring. -/
def halfB (M : RingB) (n : ℕ) (h : Fin 2) : Memref sig .tc .vmem S256x1024 .f32 :=
  (M.slice (Rect.unit (s := S3x512x1024) (offB (n % 3) h) S1x256x1024.size (offB_slot n h)) (fun _ => rfl)).squeeze S256x1024 squeezes_S1x256x1024_S256x1024
/-- Half `h` of block `n % 8` of the gate or up weights. -/
def grpA (N : SrcA) (n : ℕ) (h : Fin 2) : Memref sig .tc .hbm S2048x256 .f32 :=
  (N.slice (Rect.unit (s := S8x2048x512) (offA (n % 8) h) S1x2048x256.size (offA_grp n h)) (fun _ => rfl)).squeeze S2048x256 squeezes_S1x2048x256_S2048x256
/-- Half `h` of block `n % 8` of the down weights. -/
def grpB (N : SrcB) (n : ℕ) (h : Fin 2) : Memref sig .tc .hbm S256x1024 .f32 :=
  (N.slice (Rect.unit (s := S8x512x1024) (offB (n % 8) h) S1x256x1024.size (offB_grp n h)) (fun _ => rfl)).squeeze S256x1024 squeezes_S1x256x1024_S256x1024
/-- Slot `n % 3` whole. -/
def slotA (M : RingA) (n : ℕ) : Memref sig .tc .vmem S1x2048x512 .f32 :=
  M.slice (Rect.unit (s := S3x2048x512) (offW (n % 3)) S1x2048x512.size (offW_A n)) (fun _ => rfl)
def slotB (M : RingB) (n : ℕ) : Memref sig .tc .vmem S1x512x1024 .f32 :=
  M.slice (Rect.unit (s := S3x512x1024) (offW (n % 3)) S1x512x1024.size (offW_B n)) (fun _ => rfl)
/-- The cell half `h` of slot `n % 3` is paid on. -/
def cell (A : DmaSems sig S3x2) (n : ℕ) (h : Fin 2) : DmaSems sig S_ :=
  (A.slice (Rect.unit (s := S3x2) (offC (n % 3) h) S1x1.size (offC_inb n h))).squeeze S_ squeezes_S1x1_S_

theorem halfA_add3 (M : RingA) (n : ℕ) (h : Fin 2) : halfA M (n + 3) h = halfA M n h :=
  congrArg (fun M : Memref sig .tc .vmem S1x2048x256 .f32 => M.squeeze S2048x256 squeezes_S1x2048x256_S2048x256)
    (Memref.slice_unit_congr M (by rw [Nat.add_mod_right]) _ _ _ _)
theorem halfB_add3 (M : RingB) (n : ℕ) (h : Fin 2) : halfB M (n + 3) h = halfB M n h :=
  congrArg (fun M : Memref sig .tc .vmem S1x256x1024 .f32 => M.squeeze S256x1024 squeezes_S1x256x1024_S256x1024)
    (Memref.slice_unit_congr M (by rw [Nat.add_mod_right]) _ _ _ _)
theorem cell_add3 (A : DmaSems sig S3x2) (n : ℕ) (h : Fin 2) : cell A (n + 3) h = cell A n h :=
  congrArg (fun A : DmaSems sig S1x1 => A.squeeze S_ squeezes_S1x1_S_) (SemArray.slice_unit_congr A (by rw [Nat.add_mod_right]) _ _)

instance (n : ℕ) (h : Fin 2) : ClosedOff (offA n h) := ⟨offA n h, rfl⟩
instance (n : ℕ) (h : Fin 2) : ClosedOff (offB n h) := ⟨offB n h, rfl⟩
instance (n : ℕ) : ClosedOff (offW n) := ⟨offW n, rfl⟩

/-! ## The body's slices are these -/

section Canon

theorem halfA_congr (M : RingA) {off : Fin 3 → ℕ} {n : ℕ} {h : Fin 2} (e : off = offA (n % 3) h) (hh hs) :
    (M.slice (Rect.unit (s := S3x2048x512) off S1x2048x256.size hh) hs).squeeze S2048x256 squeezes_S1x2048x256_S2048x256 = halfA M n h :=
  congrArg (fun M : Memref sig .tc .vmem S1x2048x256 .f32 => M.squeeze S2048x256 squeezes_S1x2048x256_S2048x256) (Memref.slice_unit_congr _ e _ _ _ _)
theorem halfB_congr (M : RingB) {off : Fin 3 → ℕ} {n : ℕ} {h : Fin 2} (e : off = offB (n % 3) h) (hh hs) :
    (M.slice (Rect.unit (s := S3x512x1024) off S1x256x1024.size hh) hs).squeeze S256x1024 squeezes_S1x256x1024_S256x1024 = halfB M n h :=
  congrArg (fun M : Memref sig .tc .vmem S1x256x1024 .f32 => M.squeeze S256x1024 squeezes_S1x256x1024_S256x1024) (Memref.slice_unit_congr _ e _ _ _ _)
theorem grpA_congr (N : SrcA) {off : Fin 3 → ℕ} {n : ℕ} {h : Fin 2} (e : off = offA (n % 8) h) (hh hs) :
    (N.slice (Rect.unit (s := S8x2048x512) off S1x2048x256.size hh) hs).squeeze S2048x256 squeezes_S1x2048x256_S2048x256 = grpA N n h :=
  congrArg (fun M : Memref sig .tc .hbm S1x2048x256 .f32 => M.squeeze S2048x256 squeezes_S1x2048x256_S2048x256) (Memref.slice_unit_congr _ e _ _ _ _)
theorem grpB_congr (N : SrcB) {off : Fin 3 → ℕ} {n : ℕ} {h : Fin 2} (e : off = offB (n % 8) h) (hh hs) :
    (N.slice (Rect.unit (s := S8x512x1024) off S1x256x1024.size hh) hs).squeeze S256x1024 squeezes_S1x256x1024_S256x1024 = grpB N n h :=
  congrArg (fun M : Memref sig .tc .hbm S1x256x1024 .f32 => M.squeeze S256x1024 squeezes_S1x256x1024_S256x1024) (Memref.slice_unit_congr _ e _ _ _ _)
theorem cell_congr (A : DmaSems sig S3x2) {off : Fin 2 → ℕ} {n : ℕ} {h : Fin 2} (e : off = offC (n % 3) h) (hh) :
    (A.slice (Rect.unit (s := S3x2) off S1x1.size hh)).squeeze S_ squeezes_S1x1_S_ = cell A n h :=
  congrArg (fun A : DmaSems sig S1x1 => A.squeeze S_ squeezes_S1x1_S_) (SemArray.slice_unit_congr _ e _ _)

variable (M : RingA) (M' : RingB) (N : SrcA) (N' : SrcB) (A : DmaSems sig S3x2) (i : grid0.Coords)

theorem coord_mod (i : grid0.Coords) : (i 0).val % 8 = (i 0).val := Nat.mod_eq_of_lt (i 0).isLt
theorem coord_mod3 (i : grid0.Coords) (h : k0_cond2 i = 1#1) : ((i 0).val + 3) % 8 = (i 0).val + 3 := by
  revert h; revert i; decide +kernel

/-! Step `i`: the slices the waits name. -/
@[sl_canon] theorem canonC0 (hh) : (A.slice (Rect.unit (s := S3x2) (k0_off1 i) S1x1.size hh)).squeeze S_ squeezes_S1x1_S_ = cell A (i 0).val 0 := cell_congr A (k0_off1_eq i) hh
@[sl_canon] theorem canonC1 (hh) : (A.slice (Rect.unit (s := S3x2) (k0_off4 i) S1x1.size hh)).squeeze S_ squeezes_S1x1_S_ = cell A (i 0).val 1 := cell_congr A (k0_off4_eq i) hh
@[sl_canon] theorem canonA0 (hh hs) : (M.slice (Rect.unit (s := S3x2048x512) (k0_off2 i) S1x2048x256.size hh) hs).squeeze S2048x256 squeezes_S1x2048x256_S2048x256 = halfA M (i 0).val 0 := halfA_congr M (k0_off2_eq i) hh hs
@[sl_canon] theorem canonA1 (hh hs) : (M.slice (Rect.unit (s := S3x2048x512) (k0_off5 i) S1x2048x256.size hh) hs).squeeze S2048x256 squeezes_S1x2048x256_S2048x256 = halfA M (i 0).val 1 := halfA_congr M (k0_off5_eq i) hh hs
@[sl_canon] theorem canonG0 (hh hs) : (N.slice (Rect.unit (s := S8x2048x512) (k0_off3 i) S1x2048x256.size hh) hs).squeeze S2048x256 squeezes_S1x2048x256_S2048x256 = grpA N (i 0).val 0 := grpA_congr N (by rw [k0_off3_eq, coord_mod]; rfl) hh hs
@[sl_canon] theorem canonG1 (hh hs) : (N.slice (Rect.unit (s := S8x2048x512) (k0_off6 i) S1x2048x256.size hh) hs).squeeze S2048x256 squeezes_S1x2048x256_S2048x256 = grpA N (i 0).val 1 := grpA_congr N (by rw [k0_off6_eq, coord_mod]; rfl) hh hs
@[sl_canon] theorem canonB0 (hh hs) : (M'.slice (Rect.unit (s := S3x512x1024) (k0_off7 i) S1x256x1024.size hh) hs).squeeze S256x1024 squeezes_S1x256x1024_S256x1024 = halfB M' (i 0).val 0 := halfB_congr M' (k0_off7_eq i) hh hs
@[sl_canon] theorem canonB1 (hh hs) : (M'.slice (Rect.unit (s := S3x512x1024) (k0_off9 i) S1x256x1024.size hh) hs).squeeze S256x1024 squeezes_S1x256x1024_S256x1024 = halfB M' (i 0).val 1 := halfB_congr M' (k0_off9_eq i) hh hs
@[sl_canon] theorem canonH0 (hh hs) : (N'.slice (Rect.unit (s := S8x512x1024) (k0_off8 i) S1x256x1024.size hh) hs).squeeze S256x1024 squeezes_S1x256x1024_S256x1024 = grpB N' (i 0).val 0 := grpB_congr N' (by rw [k0_off8_eq, coord_mod]; rfl) hh hs
@[sl_canon] theorem canonH1 (hh hs) : (N'.slice (Rect.unit (s := S8x512x1024) (k0_off10 i) S1x256x1024.size hh) hs).squeeze S256x1024 squeezes_S1x256x1024_S256x1024 = grpB N' (i 0).val 1 := grpB_congr N' (by rw [k0_off10_eq, coord_mod]; rfl) hh hs

/-! Step `i`: the slices of the transfers it starts for step `i + 3`. -/
@[sl_canon] theorem canonC0' (hh) : (A.slice (Rect.unit (s := S3x2) (k0_off13 i) S1x1.size hh)).squeeze S_ squeezes_S1x1_S_ = cell A (i 0).val 0 := cell_congr A (k0_off13_eq i) hh
@[sl_canon] theorem canonC1' (hh) : (A.slice (Rect.unit (s := S3x2) (k0_off16 i) S1x1.size hh)).squeeze S_ squeezes_S1x1_S_ = cell A (i 0).val 1 := cell_congr A (k0_off16_eq i) hh
@[sl_canon] theorem canonA0' (hh hs) : (M.slice (Rect.unit (s := S3x2048x512) (k0_off14 i) S1x2048x256.size hh) hs).squeeze S2048x256 squeezes_S1x2048x256_S2048x256 = halfA M (i 0).val 0 := halfA_congr M (k0_off14_eq i) hh hs
@[sl_canon] theorem canonA1' (hh hs) : (M.slice (Rect.unit (s := S3x2048x512) (k0_off17 i) S1x2048x256.size hh) hs).squeeze S2048x256 squeezes_S1x2048x256_S2048x256 = halfA M (i 0).val 1 := halfA_congr M (k0_off17_eq i) hh hs
@[sl_canon] theorem canonG0' (h : k0_cond2 i = 1#1) (hh hs) : (N.slice (Rect.unit (s := S8x2048x512) (k0_off15 i) S1x2048x256.size hh) hs).squeeze S2048x256 squeezes_S1x2048x256_S2048x256 = grpA N ((i 0).val + 3) 0 := grpA_congr N (by rw [k0_off15_eq, coord_mod3 i h]; rfl) hh hs
@[sl_canon] theorem canonG1' (h : k0_cond2 i = 1#1) (hh hs) : (N.slice (Rect.unit (s := S8x2048x512) (k0_off18 i) S1x2048x256.size hh) hs).squeeze S2048x256 squeezes_S1x2048x256_S2048x256 = grpA N ((i 0).val + 3) 1 := grpA_congr N (by rw [k0_off18_eq, coord_mod3 i h]; rfl) hh hs
@[sl_canon] theorem canonB0' (hh hs) : (M'.slice (Rect.unit (s := S3x512x1024) (k0_off19 i) S1x256x1024.size hh) hs).squeeze S256x1024 squeezes_S1x256x1024_S256x1024 = halfB M' (i 0).val 0 := halfB_congr M' (k0_off19_eq i) hh hs
@[sl_canon] theorem canonB1' (hh hs) : (M'.slice (Rect.unit (s := S3x512x1024) (k0_off21 i) S1x256x1024.size hh) hs).squeeze S256x1024 squeezes_S1x256x1024_S256x1024 = halfB M' (i 0).val 1 := halfB_congr M' (k0_off21_eq i) hh hs
@[sl_canon] theorem canonH0' (h : k0_cond2 i = 1#1) (hh hs) : (N'.slice (Rect.unit (s := S8x512x1024) (k0_off20 i) S1x256x1024.size hh) hs).squeeze S256x1024 squeezes_S1x256x1024_S256x1024 = grpB N' ((i 0).val + 3) 0 := grpB_congr N' (by rw [k0_off20_eq, coord_mod3 i h]; rfl) hh hs
@[sl_canon] theorem canonH1' (h : k0_cond2 i = 1#1) (hh hs) : (N'.slice (Rect.unit (s := S8x512x1024) (k0_off22 i) S1x256x1024.size hh) hs).squeeze S256x1024 squeezes_S1x256x1024_S256x1024 = grpB N' ((i 0).val + 3) 1 := grpB_congr N' (by rw [k0_off22_eq, coord_mod3 i h]; rfl) hh hs

/-! Step 0: the slices of the first three experts' transfers, at literal offsets. -/
@[sl_canon] theorem litC (n : ℕ) (hn : n < 3) (hh) : (A.slice (Rect.unit (s := S3x2) ![n, 0] S1x1.size hh)).squeeze S_ squeezes_S1x1_S_ = cell A n 0 := cell_congr A (by rw [Nat.mod_eq_of_lt hn]; rfl) hh
@[sl_canon] theorem litC' (n : ℕ) (hn : n < 3) (hh) : (A.slice (Rect.unit (s := S3x2) ![n, 1] S1x1.size hh)).squeeze S_ squeezes_S1x1_S_ = cell A n 1 := cell_congr A (by rw [Nat.mod_eq_of_lt hn]; rfl) hh
@[sl_canon] theorem litA (n : ℕ) (hn : n < 3) (hh hs) : (M.slice (Rect.unit (s := S3x2048x512) ![n, 0, 0] S1x2048x256.size hh) hs).squeeze S2048x256 squeezes_S1x2048x256_S2048x256 = halfA M n 0 := halfA_congr M (by rw [Nat.mod_eq_of_lt hn]; rfl) hh hs
@[sl_canon] theorem litA' (n : ℕ) (hn : n < 3) (hh hs) : (M.slice (Rect.unit (s := S3x2048x512) ![n, 0, 256] S1x2048x256.size hh) hs).squeeze S2048x256 squeezes_S1x2048x256_S2048x256 = halfA M n 1 := halfA_congr M (by rw [Nat.mod_eq_of_lt hn]; rfl) hh hs
@[sl_canon] theorem litG (n : ℕ) (hn : n < 3) (hh hs) : (N.slice (Rect.unit (s := S8x2048x512) ![n, 0, 0] S1x2048x256.size hh) hs).squeeze S2048x256 squeezes_S1x2048x256_S2048x256 = grpA N n 0 := grpA_congr N (by rw [Nat.mod_eq_of_lt (by omega : n < 8)]; rfl) hh hs
@[sl_canon] theorem litG' (n : ℕ) (hn : n < 3) (hh hs) : (N.slice (Rect.unit (s := S8x2048x512) ![n, 0, 256] S1x2048x256.size hh) hs).squeeze S2048x256 squeezes_S1x2048x256_S2048x256 = grpA N n 1 := grpA_congr N (by rw [Nat.mod_eq_of_lt (by omega : n < 8)]; rfl) hh hs
@[sl_canon] theorem litB (n : ℕ) (hn : n < 3) (hh hs) : (M'.slice (Rect.unit (s := S3x512x1024) ![n, 0, 0] S1x256x1024.size hh) hs).squeeze S256x1024 squeezes_S1x256x1024_S256x1024 = halfB M' n 0 := halfB_congr M' (by rw [Nat.mod_eq_of_lt hn]; rfl) hh hs
@[sl_canon] theorem litB' (n : ℕ) (hn : n < 3) (hh hs) : (M'.slice (Rect.unit (s := S3x512x1024) ![n, 256, 0] S1x256x1024.size hh) hs).squeeze S256x1024 squeezes_S1x256x1024_S256x1024 = halfB M' n 1 := halfB_congr M' (by rw [Nat.mod_eq_of_lt hn]; rfl) hh hs
@[sl_canon] theorem litH (n : ℕ) (hn : n < 3) (hh hs) : (N'.slice (Rect.unit (s := S8x512x1024) ![n, 0, 0] S1x256x1024.size hh) hs).squeeze S256x1024 squeezes_S1x256x1024_S256x1024 = grpB N' n 0 := grpB_congr N' (by rw [Nat.mod_eq_of_lt (by omega : n < 8)]; rfl) hh hs
@[sl_canon] theorem litH' (n : ℕ) (hn : n < 3) (hh hs) : (N'.slice (Rect.unit (s := S8x512x1024) ![n, 256, 0] S1x256x1024.size hh) hs).squeeze S256x1024 squeezes_S1x256x1024_S256x1024 = grpB N' n 1 := grpB_congr N' (by rw [Nat.mod_eq_of_lt (by omega : n < 8)]; rfl) hh hs

end Canon

/-! ## The halves of a slot make the slot -/

theorem halfA_set (M : RingA) (n : ℕ) (h : Fin 2) :
    (halfA M n h).view.set = (Rect.unit (s := S3x2048x512) (offA (n % 3) h) S1x2048x256.size (offA_slot n h)).set.map M.view.emb :=
  (View.set_reshape _ _).trans (View.set_slice _ _)
theorem halfA_disjoint (M : RingA) (n : ℕ) : Disjoint (halfA M n 0).view.set (halfA M n 1).view.set := by
  refine Eq.mpr (congrArg₂ (fun a b : Finset M.view.ty.Idx => Disjoint a b) (halfA_set M n 0) (halfA_set M n 1)) ?_
  rw [Finset.disjoint_map, Finset.disjoint_left]
  intro x h0 h1
  rw [Rect.mem_set_unit] at h0 h1
  have a := (h0 2).2; have b := (h1 2).1
  change (x 2).val < 256 * 0 + 256 at a; change 256 * 1 ≤ (x 2).val at b
  omega
theorem halfB_set (M : RingB) (n : ℕ) (h : Fin 2) :
    (halfB M n h).view.set = (Rect.unit (s := S3x512x1024) (offB (n % 3) h) S1x256x1024.size (offB_slot n h)).set.map M.view.emb :=
  (View.set_reshape _ _).trans (View.set_slice _ _)
theorem halfB_disjoint (M : RingB) (n : ℕ) : Disjoint (halfB M n 0).view.set (halfB M n 1).view.set := by
  refine Eq.mpr (congrArg₂ (fun a b : Finset M.view.ty.Idx => Disjoint a b) (halfB_set M n 0) (halfB_set M n 1)) ?_
  rw [Finset.disjoint_map, Finset.disjoint_left]
  intro x h0 h1
  rw [Rect.mem_set_unit] at h0 h1
  have a := (h0 1).2; have b := (h1 1).1
  change (x 1).val < 256 * 0 + 256 at a; change 256 * 1 ≤ (x 1).val at b
  omega

theorem halfA_union (M : RingA) (n : ℕ) : (halfA M n 0).view.set ∪ (halfA M n 1).view.set = (slotA M n).view.set := by
  refine (congrArg₂ (fun a b : Finset M.view.ty.Idx => a ∪ b) (halfA_set M n 0) (halfA_set M n 1)).trans (Eq.trans ?_ (View.set_slice M.view _).symm)
  rw [← Finset.map_union]
  congr 1
  ext x
  rw [Finset.mem_union, Rect.mem_set_unit, Rect.mem_set_unit, Rect.mem_set_unit]
  have h2 : (x 2).val < 512 := (x 2).isLt
  constructor
  · rintro (h | h) a <;> have ha := h a <;> fin_cases a
    · exact ha
    · exact ha
    · change 0 ≤ (x 2).val ∧ (x 2).val < 0 + 512; omega
    · exact ha
    · exact ha
    · change 0 ≤ (x 2).val ∧ (x 2).val < 0 + 512; omega
  · intro h
    by_cases hx : (x 2).val < 256
    · left; intro a; have ha := h a; fin_cases a
      · exact ha
      · exact ha
      · change 256 * 0 ≤ (x 2).val ∧ (x 2).val < 256 * 0 + 256; omega
    · right; intro a; have ha := h a; fin_cases a
      · exact ha
      · exact ha
      · change 256 * 1 ≤ (x 2).val ∧ (x 2).val < 256 * 1 + 256; omega
theorem halfB_union (M : RingB) (n : ℕ) : (halfB M n 0).view.set ∪ (halfB M n 1).view.set = (slotB M n).view.set := by
  refine (congrArg₂ (fun a b : Finset M.view.ty.Idx => a ∪ b) (halfB_set M n 0) (halfB_set M n 1)).trans (Eq.trans ?_ (View.set_slice M.view _).symm)
  rw [← Finset.map_union]
  congr 1
  ext x
  rw [Finset.mem_union, Rect.mem_set_unit, Rect.mem_set_unit, Rect.mem_set_unit]
  have h1 : (x 1).val < 512 := (x 1).isLt
  constructor
  · rintro (h | h) a <;> have ha := h a <;> fin_cases a
    · exact ha
    · change 0 ≤ (x 1).val ∧ (x 1).val < 0 + 512; omega
    · exact ha
    · exact ha
    · change 0 ≤ (x 1).val ∧ (x 1).val < 0 + 512; omega
    · exact ha
  · intro h
    by_cases hx : (x 1).val < 256
    · left; intro a; have ha := h a; fin_cases a
      · exact ha
      · change 256 * 0 ≤ (x 1).val ∧ (x 1).val < 256 * 0 + 256; omega
      · exact ha
    · right; intro a; have ha := h a; fin_cases a
      · exact ha
      · change 256 * 1 ≤ (x 1).val ∧ (x 1).val < 256 * 1 + 256; omega
      · exact ha

/-! ## What a transfer leaves in a slot -/

/-- The element of the weights that a ring element holds once block `n` has landed: the same row and column, expert `n`. -/
def atA (n : ℕ) (x : S3x2048x512.Idx) : S8x2048x512.Idx
  | 0 => (⟨n % 8, Nat.mod_lt _ (by decide)⟩ : Fin 8)
  | 1 => x 1
  | 2 => x 2
def atB (n : ℕ) (x : S3x512x1024.Idx) : S8x512x1024.Idx
  | 0 => (⟨n % 8, Nat.mod_lt _ (by decide)⟩ : Fin 8)
  | 1 => x 1
  | 2 => x 2

/-- A ring's contents, as far as the slot holding block `n` is concerned: the block. -/
def ringA (M : RingA) (W : S8x2048x512.Idx → Elt F .f32) (n : ℕ) : M.view.ty.Contents (Elt F) := M.view.rep fun x => W (atA n x)
def ringB (M : RingB) (W : S8x512x1024.Idx → Elt F .f32) (n : ℕ) : M.view.ty.Contents (Elt F) := M.view.rep fun x => W (atB n x)

/-- A transfer of one rectangle of `N` over one of `M` leaves, on the elements it writes, what re-indexing `N` by `ψ` says. -/
theorem landed_eq {d d' : Fin 3 → ℕ} {t : Shape} {e : EltTy} (M : Memref sig .tc .vmem ⟨3, d⟩ e) (N : Memref sig .tc .hbm ⟨3, d'⟩ e)
    {off off' size : Fin 3 → ℕ} (hb hb' hs hs') (hq : (⟨3, size⟩ : Shape).Squeezes t) (ψ : (⟨3, d⟩ : Shape).Idx → (⟨3, d'⟩ : Shape).Idx)
    (hψ : ∀ z, ψ ((Rect.unit (s := ⟨3, d⟩) off size hb).emb z) = (Rect.unit (s := ⟨3, d'⟩) off' size hb').emb z)
    (f : M.view.ty.Contents (Elt F)) (X : N.view.ty.Contents (Elt F)) :
    ∀ i ∈ ((M.slice (Rect.unit (s := ⟨3, d⟩) off size hb) hs).squeeze t hq).view.set,
      ((M.slice (Rect.unit (s := ⟨3, d⟩) off size hb) hs).squeeze t hq).view.writes (Elt F) f
        [⟨Rect.whole t, ReadAs.same.apply (((N.slice (Rect.unit (s := ⟨3, d'⟩) off' size hb') hs').squeeze t hq).view.read (Elt F) X)⟩] i
      = M.view.rep (fun x => N.view.read (Elt F) X (ψ x)) i := by
  intro i hi
  obtain ⟨y, -, rfl⟩ := Finset.mem_map.mp hi
  rw [← View.write_univ_eq_writes_whole, View.writes_nil, View.write_emb_of_mem _ _ (Finset.mem_univ _)]
  have e := View.rep_emb M.view (fun x => N.view.read (Elt F) X (ψ x)) ((Rect.unit (s := ⟨3, d⟩) off size hb).emb (Shape.reshapeEquiv hq.numel_eq y))
  rw [hψ] at e
  exact e.symm

theorem atA_emb (n : ℕ) (h : Fin 2) (z) : atA n ((Rect.unit (s := S3x2048x512) (offA (n % 3) h) S1x2048x256.size (offA_slot n h)).emb z)
    = (Rect.unit (s := S8x2048x512) (offA (n % 8) h) S1x2048x256.size (offA_grp n h)).emb z := by
  have hz : (z 0).val < 1 := (z 0).isLt
  funext a
  apply Fin.ext
  fin_cases a
  · show n % 8 = n % 8 + 1 * (z 0).val; omega
  · rfl
  · rfl
theorem atB_emb (n : ℕ) (h : Fin 2) (z) : atB n ((Rect.unit (s := S3x512x1024) (offB (n % 3) h) S1x256x1024.size (offB_slot n h)).emb z)
    = (Rect.unit (s := S8x512x1024) (offB (n % 8) h) S1x256x1024.size (offB_grp n h)).emb z := by
  have hz : (z 0).val < 1 := (z 0).isLt
  funext a
  apply Fin.ext
  fin_cases a
  · show n % 8 = n % 8 + 1 * (z 0).val; omega
  · rfl
  · rfl

theorem landedA (M : RingA) (N : SrcA) (n : ℕ) (h : Fin 2) (f : M.view.ty.Contents (Elt F)) (X : N.view.ty.Contents (Elt F)) :
    ∀ i ∈ (halfA M n h).view.set,
      (halfA M n h).view.writes (Elt F) f [⟨Rect.whole S2048x256, ReadAs.same.apply ((grpA N n h).view.read (Elt F) X)⟩] i
        = ringA M (N.view.read (Elt F) X) n i :=
  landed_eq M N _ _ _ _ squeezes_S1x2048x256_S2048x256 (atA n) (atA_emb n h) f X
theorem landedB (M : RingB) (N : SrcB) (n : ℕ) (h : Fin 2) (f : M.view.ty.Contents (Elt F)) (X : N.view.ty.Contents (Elt F)) :
    ∀ i ∈ (halfB M n h).view.set,
      (halfB M n h).view.writes (Elt F) f [⟨Rect.whole S256x1024, ReadAs.same.apply ((grpB N n h).view.read (Elt F) X)⟩] i
        = ringB M (N.view.read (Elt F) X) n i :=
  landed_eq M N _ _ _ _ squeezes_S1x256x1024_S256x1024 (atB n) (atB_emb n h) f X

end Cert.Moe

end

end
-- ==== Proof.Pieces.lean ====
/-
  What the kernel holds between two grid points: the pieces of the ring of transfers, in separation logic.
-/
module

public import proofs.«01_k».proof.Proof.Slots
public import Idealize.ShloMosaic.Lib.VecWindow

@[expose] public section

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

abbrev egM : RingA := Memref.whole cc0_scratch5
abbrev euM : RingA := Memref.whole cc0_scratch6
abbrev edM : RingB := Memref.whole cc0_scratch7
abbrev gM : SrcA := Memref.whole main_arg6
abbrev uM : SrcA := Memref.whole main_arg7
abbrev dM : SrcB := Memref.whole main_arg8

section
variable (c : Dev nD)

theorem entails_of_eq {P Q : sProp 𝕄} (e : P = Q) : P ⊢ Q := e ▸ .rfl

/-- Half `h` of slot `n % 3`, held at contents `f`. -/
abbrev dstA (M : RingA) (n : ℕ) (h : Fin 2) (f : Buf (Elt F) ((halfA M n h).view.loc (c : Thread nD τ))) : sProp 𝕄 :=
  (halfA M n h).view.loc (c : Thread nD τ) ↦[(halfA M n h).view.set]{fullShare} f
abbrev dstB (M : RingB) (n : ℕ) (h : Fin 2) (f : Buf (Elt F) ((halfB M n h).view.loc (c : Thread nD τ))) : sProp 𝕄 :=
  (halfB M n h).view.loc (c : Thread nD τ) ↦[(halfB M n h).view.set]{fullShare} f
/-- Half `h` of block `n`, at home in HBM. -/
abbrev homeA (N : SrcA) (X : Buf (Elt F) (N.view.loc (c : Thread nD τ))) (n : ℕ) (h : Fin 2) : sProp 𝕄 :=
  (grpA N n h).view.loc (c : Thread nD τ) ↦[(grpA N n h).view.set]{fullShare} X
abbrev homeB (N : SrcB) (X : Buf (Elt F) (N.view.loc (c : Thread nD τ))) (n : ℕ) (h : Fin 2) : sProp 𝕄 :=
  (grpB N n h).view.loc (c : Thread nD τ) ↦[(grpB N n h).view.set]{fullShare} X
/-- A cell at zero. -/
abbrev cellP (A : DmaSems sig S3x2) (n : ℕ) (h : Fin 2) : sProp 𝕄 := semVal ((c : Thread nD τ), SemLoc.dma (cell A n h).sem) 0
/-- Half `h` of block `n` on its way to slot `n % 3`: what its wait delivers. -/
abbrev flightA (M : RingA) (N : SrcA) (A : DmaSems sig S3x2) (X : Buf (Elt F) (N.view.loc (c : Thread nD τ))) (n : ℕ) (h : Fin 2) : sProp 𝕄 :=
  Transfers.Flight countersEmb (c : Thread nD τ) (SemLoc.dma (cell A n h).sem) () 65536
    iprop(dstA c M n h (ringA M (N.view.read (Elt F) X) n) ∗ homeA c N X n h)
abbrev flightB (M : RingB) (N : SrcB) (A : DmaSems sig S3x2) (X : Buf (Elt F) (N.view.loc (c : Thread nD τ))) (n : ℕ) (h : Fin 2) : sProp 𝕄 :=
  Transfers.Flight countersEmb (c : Thread nD τ) (SemLoc.dma (cell A n h).sem) () 32768
    iprop(dstB c M n h (ringB M (N.view.read (Elt F) X) n) ∗ homeB c N X n h)

/-- A transfer just issued into a half of a slot, whatever it held, is the flight of its block. -/
theorem flightA_issued (M : RingA) (N : SrcA) (A : DmaSems sig S3x2) (X : Buf (Elt F) (N.view.loc (c : Thread nD τ))) (n : ℕ) (h : Fin 2)
    (f : Buf (Elt F) ((halfA M n h).view.loc (c : Thread nD τ))) :
    (Transfers.Flight countersEmb (c : Thread nD τ) (SemLoc.dma (cell A n h).sem) () 65536
      iprop(dstA c M n h ((halfA M n h).view.writes (Elt F) f [⟨Rect.whole S2048x256, ReadAs.same.apply ((grpA N n h).view.read (Elt F) X)⟩])
        ∗ homeA c N X n h) : sProp 𝕄) = flightA c M N A X n h := by
  unfold flightA dstA
  rw [pointsTo_congr (landedA M N n h f X)]
theorem flightB_issued (M : RingB) (N : SrcB) (A : DmaSems sig S3x2) (X : Buf (Elt F) (N.view.loc (c : Thread nD τ))) (n : ℕ) (h : Fin 2)
    (f : Buf (Elt F) ((halfB M n h).view.loc (c : Thread nD τ))) :
    (Transfers.Flight countersEmb (c : Thread nD τ) (SemLoc.dma (cell A n h).sem) () 32768
      iprop(dstB c M n h ((halfB M n h).view.writes (Elt F) f [⟨Rect.whole S256x1024, ReadAs.same.apply ((grpB N n h).view.read (Elt F) X)⟩])
        ∗ homeB c N X n h) : sProp 𝕄) = flightB c M N A X n h := by
  unfold flightB dstB
  rw [pointsTo_congr (landedB M N n h f X)]

/-- What a landed half holds. -/
theorem dstA_landed (M : RingA) (N : SrcA) (X : Buf (Elt F) (N.view.loc (c : Thread nD τ))) (n : ℕ) (h : Fin 2)
    (f : Buf (Elt F) ((halfA M n h).view.loc (c : Thread nD τ))) :
    dstA c M n h ((halfA M n h).view.writes (Elt F) f [⟨Rect.whole S2048x256, ReadAs.same.apply ((grpA N n h).view.read (Elt F) X)⟩])
      ⊢ dstA c M n h (ringA M (N.view.read (Elt F) X) n) := entails_of_eq (pointsTo_congr (landedA M N n h f X))
theorem dstB_landed (M : RingB) (N : SrcB) (X : Buf (Elt F) (N.view.loc (c : Thread nD τ))) (n : ℕ) (h : Fin 2)
    (f : Buf (Elt F) ((halfB M n h).view.loc (c : Thread nD τ))) :
    dstB c M n h ((halfB M n h).view.writes (Elt F) f [⟨Rect.whole S256x1024, ReadAs.same.apply ((grpB N n h).view.read (Elt F) X)⟩])
      ⊢ dstB c M n h (ringB M (N.view.read (Elt F) X) n) := entails_of_eq (pointsTo_congr (landedB M N n h f X))

/-- The flight of a block just issued, its cell under another name. -/
theorem flightA_at (M : RingA) (N : SrcA) (A : DmaSems sig S3x2) (X : Buf (Elt F) (N.view.loc (c : Thread nD τ))) (n : ℕ) (h : Fin 2)
    (f : Buf (Elt F) ((halfA M n h).view.loc (c : Thread nD τ))) (s : DmaSem sig) (hs : (cell A n h).sem = s) :
    (Transfers.Flight countersEmb (c : Thread nD τ) (SemLoc.dma s) default 65536
      iprop(dstA c M n h ((halfA M n h).view.writes (Elt F) f [⟨Rect.whole S2048x256, ReadAs.same.apply ((grpA N n h).view.read (Elt F) X)⟩])
        ∗ homeA c N X n h) : sProp 𝕄) ⊢ flightA c M N A X n h := by
  subst hs; exact entails_of_eq (flightA_issued c M N A X n h f)
theorem flightB_at (M : RingB) (N : SrcB) (A : DmaSems sig S3x2) (X : Buf (Elt F) (N.view.loc (c : Thread nD τ))) (n : ℕ) (h : Fin 2)
    (f : Buf (Elt F) ((halfB M n h).view.loc (c : Thread nD τ))) (s : DmaSem sig) (hs : (cell A n h).sem = s) :
    (Transfers.Flight countersEmb (c : Thread nD τ) (SemLoc.dma s) default 32768
      iprop(dstB c M n h ((halfB M n h).view.writes (Elt F) f [⟨Rect.whole S256x1024, ReadAs.same.apply ((grpB N n h).view.read (Elt F) X)⟩])
        ∗ homeB c N X n h) : sProp 𝕄) ⊢ flightB c M N A X n h := by
  subst hs; exact entails_of_eq (flightB_issued c M N A X n h f)

/-- A slot held whole is its two halves. -/
abbrev wholeA (M : RingA) (n : ℕ) (f : Buf (Elt F) ((slotA M n).view.loc (c : Thread nD τ))) : sProp 𝕄 :=
  (slotA M n).view.loc (c : Thread nD τ) ↦[(slotA M n).view.set]{fullShare} f
abbrev wholeB (M : RingB) (n : ℕ) (f : Buf (Elt F) ((slotB M n).view.loc (c : Thread nD τ))) : sProp 𝕄 :=
  (slotB M n).view.loc (c : Thread nD τ) ↦[(slotB M n).view.set]{fullShare} f
theorem wholeA_halves (M : RingA) (n : ℕ) (f : Buf (Elt F) ((slotA M n).view.loc (c : Thread nD τ))) :
    wholeA c M n f ⊣⊢ (iprop(dstA c M n 0 f ∗ dstA c M n 1 f) : sProp 𝕄) := by
  unfold wholeA
  rw [← halfA_union]
  exact pointsTo_union (halfA_disjoint M n)
theorem wholeB_halves (M : RingB) (n : ℕ) (f : Buf (Elt F) ((slotB M n).view.loc (c : Thread nD τ))) :
    wholeB c M n f ⊣⊢ (iprop(dstB c M n 0 f ∗ dstB c M n 1 f) : sProp 𝕄) := by
  unfold wholeB
  rw [← halfB_union]
  exact pointsTo_union (halfB_disjoint M n)

variable (XG : Buf (Elt F) (gM.view.loc (c : Thread nD τ))) (XU : Buf (Elt F) (uM.view.loc (c : Thread nD τ)))
  (XD : Buf (Elt F) (dM.view.loc (c : Thread nD τ)))

/-- The six transfers of expert `n` in flight. -/
def flights (n : ℕ) : sProp 𝕄 :=
  iprop(flightA c egM gM cc0_scratch8 XG n 0 ∗ flightA c egM gM cc0_scratch8 XG n 1
    ∗ flightA c euM uM cc0_scratch9 XU n 0 ∗ flightA c euM uM cc0_scratch9 XU n 1
    ∗ flightB c edM dM cc0_scratch10 XD n 0 ∗ flightB c edM dM cc0_scratch10 XD n 1)
/-- The six halves of expert `n`'s blocks at home. -/
def homes (n : ℕ) : sProp 𝕄 :=
  iprop(homeA c gM XG n 0 ∗ homeA c gM XG n 1 ∗ homeA c uM XU n 0 ∗ homeA c uM XU n 1 ∗ homeB c dM XD n 0 ∗ homeB c dM XD n 1)
/-- Slot `n % 3` at rest: its six halves at some contents, its six cells at zero. -/
def atRest (n : ℕ) : sProp 𝕄 :=
  iprop(((∃ f, dstA (F := F) c egM n 0 f) ∗ (∃ f, dstA (F := F) c egM n 1 f) ∗ (∃ f, dstA (F := F) c euM n 0 f) ∗ (∃ f, dstA (F := F) c euM n 1 f)
      ∗ (∃ f, dstB (F := F) c edM n 0 f) ∗ (∃ f, dstB (F := F) c edM n 1 f))
    ∗ cellP c cc0_scratch8 n 0 ∗ cellP c cc0_scratch8 n 1 ∗ cellP c cc0_scratch9 n 0 ∗ cellP c cc0_scratch9 n 1
    ∗ cellP c cc0_scratch10 n 0 ∗ cellP c cc0_scratch10 n 1)

/-- Expert `n`'s part of the ring at a boundary: in flight while there is such an expert, at rest afterwards. -/
def ringSlot (n : ℕ) : sProp 𝕄 := if n < 8 then flights c XG XU XD n else atRest (F := F) c n
/-- What a step starts from: the blocks of the expert three later, if there is one. -/
def toStart (n : ℕ) : sProp 𝕄 := if n < 8 then homes c XG XU XD n else iprop(emp)

theorem atRest_add3 (n : ℕ) : atRest (F := F) c (n + 3) = atRest (F := F) c n := by
  have hA : ∀ (M : RingA) (h : Fin 2), (iprop(∃ f, dstA (F := F) c M (n + 3) h f) : sProp 𝕄) = iprop(∃ f, dstA (F := F) c M n h f) := fun M h => by
    have key : ∀ V : Memref sig .tc .vmem S2048x256 .f32, V = halfA M n h →
        (iprop(∃ f : Buf (Elt F) (V.view.loc (c : Thread nD τ)), V.view.loc (c : Thread nD τ) ↦[V.view.set]{fullShare} f) : sProp 𝕄)
          = iprop(∃ f, dstA (F := F) c M n h f) := by rintro _ rfl; rfl
    exact key _ (halfA_add3 M n h)
  have hB : ∀ (M : RingB) (h : Fin 2), (iprop(∃ f, dstB (F := F) c M (n + 3) h f) : sProp 𝕄) = iprop(∃ f, dstB (F := F) c M n h f) := fun M h => by
    have key : ∀ V : Memref sig .tc .vmem S256x1024 .f32, V = halfB M n h →
        (iprop(∃ f : Buf (Elt F) (V.view.loc (c : Thread nD τ)), V.view.loc (c : Thread nD τ) ↦[V.view.set]{fullShare} f) : sProp 𝕄)
          = iprop(∃ f, dstB (F := F) c M n h f) := by rintro _ rfl; rfl
    exact key _ (halfB_add3 M n h)
  unfold atRest
  rw [hA, hA, hA, hA, hB, hB]
  unfold cellP
  simp only [cell_add3]

/-- The same for the slot three experts earlier, which is the same slot. -/
theorem flightA_issued3 (M : RingA) (N : SrcA) (A : DmaSems sig S3x2) (X : Buf (Elt F) (N.view.loc (c : Thread nD τ))) (n : ℕ) (h : Fin 2)
    (f : Buf (Elt F) ((halfA M n h).view.loc (c : Thread nD τ)))
    (s : DmaSem sig) (hs : (cell A n h).sem = s) :
    (Transfers.Flight countersEmb (c : Thread nD τ) (SemLoc.dma s) default 65536
      iprop(dstA c M n h ((halfA M n h).view.writes (Elt F) f [⟨Rect.whole S2048x256, ReadAs.same.apply ((grpA N (n + 3) h).view.read (Elt F) X)⟩])
        ∗ homeA c N X (n + 3) h) : sProp 𝕄) ⊢ flightA c M N A X (n + 3) h := by
  subst hs
  have key : ∀ (V : Memref sig .tc .vmem S2048x256 .f32) (s : DmaSems sig S_) (f : Buf (Elt F) (V.view.loc (c : Thread nD τ))),
      V = halfA M (n + 3) h → s = cell A (n + 3) h →
      (Transfers.Flight countersEmb (c : Thread nD τ) (SemLoc.dma s.sem) () 65536
        iprop((V.view.loc (c : Thread nD τ) ↦[V.view.set]{fullShare}
            V.view.writes (Elt F) f [⟨Rect.whole S2048x256, ReadAs.same.apply ((grpA N (n + 3) h).view.read (Elt F) X)⟩])
          ∗ homeA c N X (n + 3) h) : sProp 𝕄) ⊢ flightA c M N A X (n + 3) h := by
    rintro _ _ f rfl rfl; exact (flightA_issued c M N A X (n + 3) h f) ▸ .rfl
  exact key _ _ f (halfA_add3 M n h).symm (cell_add3 A n h).symm
theorem flightB_issued3 (M : RingB) (N : SrcB) (A : DmaSems sig S3x2) (X : Buf (Elt F) (N.view.loc (c : Thread nD τ))) (n : ℕ) (h : Fin 2)
    (f : Buf (Elt F) ((halfB M n h).view.loc (c : Thread nD τ)))
    (s : DmaSem sig) (hs : (cell A n h).sem = s) :
    (Transfers.Flight countersEmb (c : Thread nD τ) (SemLoc.dma s) default 32768
      iprop(dstB c M n h ((halfB M n h).view.writes (Elt F) f [⟨Rect.whole S256x1024, ReadAs.same.apply ((grpB N (n + 3) h).view.read (Elt F) X)⟩])
        ∗ homeB c N X (n + 3) h) : sProp 𝕄) ⊢ flightB c M N A X (n + 3) h := by
  subst hs
  have key : ∀ (V : Memref sig .tc .vmem S256x1024 .f32) (s : DmaSems sig S_) (f : Buf (Elt F) (V.view.loc (c : Thread nD τ))),
      V = halfB M (n + 3) h → s = cell A (n + 3) h →
      (Transfers.Flight countersEmb (c : Thread nD τ) (SemLoc.dma s.sem) () 32768
        iprop((V.view.loc (c : Thread nD τ) ↦[V.view.set]{fullShare}
            V.view.writes (Elt F) f [⟨Rect.whole S256x1024, ReadAs.same.apply ((grpB N (n + 3) h).view.read (Elt F) X)⟩])
          ∗ homeB c N X (n + 3) h) : sProp 𝕄) ⊢ flightB c M N A X (n + 3) h := by
    rintro _ _ f rfl rfl; exact (flightB_issued c M N A X (n + 3) h f) ▸ .rfl
  exact key _ _ f (halfB_add3 M n h).symm (cell_add3 A n h).symm

end

/-! ## What a step computes -/

/-- Block `n` of the stacked gate or up weights, as a whole slot is loaded. -/
def blkA (W : S8x2048x512.Idx → Elt F .f32) (n : ℕ) : Vec F S1x2048x512 .f32 :=
  VecWindow.window (fun x => W (atA n x)) (offW (n % 3)) S1x2048x512.size (offW_A n)
def blkB (W : S8x512x1024.Idx → Elt F .f32) (n : ℕ) : Vec F S1x512x1024 .f32 :=
  VecWindow.window (fun x => W (atB n x)) (offW (n % 3)) S1x512x1024.size (offW_B n)

/-- The accumulator after expert `n`, from what it was. -/
def stepAcc (n : ℕ) (fn : Vec F S512x2048 .bf16) (i1 i2 : Vec F S512x1 .i32) (w1 : Vec F S512x1 .f32) (acc : Vec F S512x1024 .f32)
    (g u : Vec F S1x2048x512 .f32) (d : Vec F S1x512x1024 .f32) : Vec F S512x1024 .f32 :=
  k0_pay1 (k0_pay15 fn g u) w1 (k0_pay16 (BitVec.ofNat 32 n) w1 i1) (k0_pay17 (BitVec.ofNat 32 n) i2) (FloatOps.ofBits .f32 1065353216#32) acc d

theorem readAt_ringA (M : RingA) (W : S8x2048x512.Idx → Elt F .f32) (i : grid0.Coords) (hh) :
    M.view.readAt (Elt F) (Rect.unit (s := S3x2048x512) (k0_off11 i) S1x2048x512.size hh).toLoadRect (ringA M W (i 0).val) = blkA W (i 0).val :=
  View.readAt_rep_unit M.view _ hh (k0_off11_eq i) (offW_A (i 0).val)
theorem readAt_ringB (M : RingB) (W : S8x512x1024.Idx → Elt F .f32) (i : grid0.Coords) (hh) :
    M.view.readAt (Elt F) (Rect.unit (s := S3x512x1024) (k0_off12 i) S1x512x1024.size hh).toLoadRect (ringB M W (i 0).val) = blkB W (i 0).val :=
  View.readAt_rep_unit M.view _ hh (k0_off12_eq i) (offW_B (i 0).val)

/-- A whole store over anything leaves what it stores. -/
theorem store_rep (c : Dev nD) {s : Shape} {e : EltTy} (m : Memref sig .tc .vmem s e) (g : Buf (Elt F) (m.view.loc (c : Thread nD τ)))
    {off : Fin s.rank → ℕ} (inb : ∀ a, off a + s.size a ≤ s.size a) (w w' : s.Idx → Elt F e) (hw : w = w') :
    (m.view.loc (c : Thread nD τ) ↦[m.view.set]{fullShare} m.view.writes (Elt F) g [⟨Rect.unit off s.size inb, w⟩] : sProp 𝕄)
      ⊢ m.view.loc (c : Thread nD τ) ↦[m.view.set]{fullShare} m.view.rep w' := by
  subst hw
  rw [pointsTo_rep, View.read_writes_full]

theorem cond2_iff (i : grid0.Coords) : k0_cond2 i = 1#1 ↔ (i 0).val + 3 < 8 := by revert i; decide +kernel
theorem cond3_iff (i : grid0.Coords) : k0_cond3 i = 1#1 ↔ (i 0).val = 7 := by revert i; decide +kernel
/-- The condition of the prologue. -/
abbrev cond1 (i : grid0.Coords) : BitVec 1 :=
  Scalar.cmpi .ne (Scalar.extui (Scalar.cmpi .eq (BitVec.ofNat 32 (i 0).val) 0#32) : BitVec 32) 0#32
theorem cond1_iff (i : grid0.Coords) : cond1 i = 1#1 ↔ (i 0).val = 0 := by revert i; decide +kernel

end Cert.Moe

end

end
-- ==== Proof.Step.lean ====
/-
  One grid point of the kernel after the first: the six transfers of its expert are awaited, the expert is added to the
  accumulator, the next transfers into the slot it leaves are started if there are any, and at the last point the result is written.
-/
module

public import proofs.«01_k».proof.Proof.Pieces

@[expose] public section

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)
variable (XG : Buf (Elt F) (gM.view.loc (c : Thread nD τ))) (XU : Buf (Elt F) (uM.view.loc (c : Thread nD τ)))
  (XD : Buf (Elt F) (dM.view.loc (c : Thread nD τ)))

/-- A memref held at contents `x`. -/
abbrev held {s : Shape} {e : EltTy} (m : Memref sig .tc .vmem s e) (x : s.Idx → Elt F e) : sProp 𝕄 :=
  m.view.loc (c : Thread nD τ) ↦[m.view.set]{fullShare} m.view.rep x

/-- What a step loads and computes, read off the contents it holds. -/
theorem step_value (i : grid0.Coords) (n : ℕ) (hn : (i 0).val = n) (fnM : Memref sig .tc .vmem S512x2048 .bf16) (i1M i2M : Memref sig .tc .vmem S512x1 .i32)
    (w1M : Memref sig .tc .vmem S512x1 .f32) (accM : Memref sig .tc .vmem S512x1024 .f32)
    (f0 : Vec F S512x2048 .bf16) (f1 f2 : Vec F S512x1 .i32) (f3 : Vec F S512x1 .f32) (f4 : Vec F S512x1024 .f32) (ha hb hc he hf) :
    k0_pay1 (k0_pay15 (fnM.view.readAt (Elt F) (Rect.unit (s := S512x2048) ![0, 0] S512x2048.size ha).toLoadRect (fnM.view.rep f0))
        (egM.view.readAt (Elt F) (Rect.unit (s := S3x2048x512) (k0_off11 i) S1x2048x512.size hb).toLoadRect (ringA egM (gM.view.read (Elt F) XG) n))
        (euM.view.readAt (Elt F) (Rect.unit (s := S3x2048x512) (k0_off11 i) S1x2048x512.size hb).toLoadRect (ringA euM (uM.view.read (Elt F) XU) n)))
      (w1M.view.readAt (Elt F) (Rect.unit (s := S512x1) ![0, 0] S512x1.size hc).toLoadRect (w1M.view.rep f3))
      (k0_pay16 (BitVec.ofNat 32 n) (w1M.view.readAt (Elt F) (Rect.unit (s := S512x1) ![0, 0] S512x1.size hc).toLoadRect (w1M.view.rep f3))
        (i1M.view.readAt (Elt F) (Rect.unit (s := S512x1) ![0, 0] S512x1.size hc).toLoadRect (i1M.view.rep f1)))
      (k0_pay17 (BitVec.ofNat 32 n) (i2M.view.readAt (Elt F) (Rect.unit (s := S512x1) ![0, 0] S512x1.size hc).toLoadRect (i2M.view.rep f2)))
      (FloatOps.ofBits .f32 1065353216#32)
      (accM.view.readAt (Elt F) (Rect.unit (s := S512x1024) ![0, 0] S512x1024.size he).toLoadRect (accM.view.rep f4))
      (edM.view.readAt (Elt F) (Rect.unit (s := S3x512x1024) (k0_off12 i) S1x512x1024.size hf).toLoadRect (ringB edM (dM.view.read (Elt F) XD) n))
    = stepAcc n f0 f1 f2 f3 f4 (blkA (gM.view.read (Elt F) XG) n) (blkA (uM.view.read (Elt F) XU) n)
        (blkB (dM.view.read (Elt F) XD) n) := by
  subst hn
  unfold stepAcc
  rw [View.readAt_rep_full fnM.view f0 ha, View.readAt_rep_full w1M.view f3 hc, View.readAt_rep_full i1M.view f1 hc,
    View.readAt_rep_full i2M.view f2 hc, View.readAt_rep_full accM.view f4 he,
    readAt_ringA egM (gM.view.read (Elt F) XG) i hb, readAt_ringA euM (uM.view.read (Elt F) XU) i hb, readAt_ringB edM (dM.view.read (Elt F) XD) i hf]

theorem last_value (accM : Memref sig .tc .vmem S512x1024 .f32) (arg10 arg11 : Memref sig .tc .vmem S1x1024 .f32)
    (acc' : Vec F S512x1024 .f32) (x10 x11 : Vec F S1x1024 .f32) (ha hb) :
    k0_pay2 (accM.view.readAt (Elt F) (Rect.unit (s := S512x1024) ![0, 0] S512x1024.size ha).toLoadRect (accM.view.rep acc'))
      (arg10.view.readAt (Elt F) (Rect.unit (s := S1x1024) ![0, 0] S1x1024.size hb).toLoadRect (arg10.view.rep x10))
      (arg11.view.readAt (Elt F) (Rect.unit (s := S1x1024) ![0, 0] S1x1024.size hb).toLoadRect (arg11.view.rep x11))
    = k0_pay2 acc' x10 x11 := by
  rw [View.readAt_rep_full accM.view acc' ha, View.readAt_rep_full arg10.view x10 hb, View.readAt_rep_full arg11.view x11 hb]

set_option maxRecDepth 65536 in
set_option maxHeartbeats 4000000 in
theorem step (i : grid0.Coords) (hi : (i 0).val ≠ 0)
    (arg1 : Memref sig .tc .vmem S512x2048 .f32) (harg1 : arg1.IsWhole) (arg2 : Memref sig .tc .vmem S1x2048 .f32) (harg2 : arg2.IsWhole) (arg3 : Memref sig .tc .vmem S2048x8 .f32) (harg3 : arg3.IsWhole)
    (arg4 : Memref sig .tc .vmem S2048x512 .f32) (harg4 : arg4.IsWhole) (arg5 : Memref sig .tc .vmem S2048x512 .f32) (harg5 : arg5.IsWhole) (arg6 : Memref sig .tc .vmem S512x1024 .f32) (harg6 : arg6.IsWhole)
    (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole)
    (fnM : Memref sig .tc .vmem S512x2048 .bf16) (hfn : fnM.IsWhole) (i1M : Memref sig .tc .vmem S512x1 .i32) (hi1 : i1M.IsWhole)
    (i2M : Memref sig .tc .vmem S512x1 .i32) (hi2 : i2M.IsWhole) (w1M : Memref sig .tc .vmem S512x1 .f32) (hw1 : w1M.IsWhole)
    (accM : Memref sig .tc .vmem S512x1024 .f32) (hacc : accM.IsWhole)
    (f0 : Vec F S512x2048 .bf16) (f1 f2 : Vec F S512x1 .i32) (f3 : Vec F S512x1 .f32) (f4 acc' : Vec F S512x1024 .f32)
    (x10 x11 : Vec F S1x1024 .f32) (x12 : Vec F S512x1024 .f32)
    (hacc' : acc' = stepAcc (i 0).val f0 f1 f2 f3 f4 (blkA (gM.view.read (Elt F) XG) (i 0).val) (blkA (uM.view.read (Elt F) XU) (i 0).val)
      (blkB (dM.view.read (Elt F) XD) (i 0).val))
    (W : Waits sig Unit) (K : PUnit → sProp 𝕄) :
    iprop((held c fnM f0 ∗ held c i1M f1 ∗ held c i2M f2 ∗ held c w1M f3 ∗ held c accM f4)
      ∗ (held c arg10 x10 ∗ held c arg11 x11 ∗ held c arg12 x12)
      ∗ ringSlot c XG XU XD (i 0).val ∗ toStart c XG XU XD ((i 0).val + 3) ∗ owes (c : Thread nD τ) 0 W
      ∗ (iprop((held c fnM f0 ∗ held c i1M f1 ∗ held c i2M f2 ∗ held c w1M f3 ∗ held c accM acc')
          ∗ (held c arg10 x10 ∗ held c arg11 x11 ∗ held c arg12 (if (i 0).val = 7 then k0_pay2 acc' x10 x11 else x12))
          ∗ ringSlot c XG XU XD ((i 0).val + 3) ∗ homes c XG XU XD (i 0).val ∗ (∃ W', owes (c : Thread nD τ) 0 W')) -∗ K ⟨⟩))
    ⊢ wp frame (wpE (defs₀ (F := F)) Variants.none (c : Thread nD τ) none) Set.univ
      (cc0__moe_kernel i arg1 harg1 arg2 harg2 arg3 harg3 arg4 harg4 arg5 harg5 arg6 harg6 gM (Memref.isWhole_whole _) uM (Memref.isWhole_whole _) dM (Memref.isWhole_whole _) arg10 harg10 arg11 harg11 arg12 harg12
        fnM hfn i1M hi1 i2M hi2 w1M hw1 accM hacc egM (Memref.isWhole_whole _) euM (Memref.isWhole_whole _) edM (Memref.isWhole_whole _) cc0_scratch8 cc0_scratch9 cc0_scratch10) K := by
  have h1 : ¬ cond1 i = 1#1 := fun h => hi ((cond1_iff i).1 h)
  have hlt : (i 0).val < 8 := (i 0).isLt
  simp only [cc0__moe_kernel_eq_skeleton]; unfold cc0__moe_kernel_skel
  unfold held
  rw [show ringSlot c XG XU XD (i 0).val = flights c XG XU XD (i 0).val from if_pos hlt]
  unfold flights
  iintro ⟨⟨H0, H1, H2, H3, H4⟩, ⟨H10, H11, H12⟩, ⟨Fg0, Fg1, Fu0, Fu1, Fd0, Fd1⟩, Hs, HW, Hk⟩
  sl_exec
  ihave Sg := (wholeA_halves c egM (i 0).val _).2 $$ [Fg0_dst Fg1_dst]
  · isplitl [Fg0_dst]
    · iexact Fg0_dst
    · iexact Fg1_dst
  ihave Su := (wholeA_halves c euM (i 0).val _).2 $$ [Fu0_dst Fu1_dst]
  · isplitl [Fu0_dst]
    · iexact Fu0_dst
    · iexact Fu1_dst
  ihave Sd := (wholeB_halves c edM (i 0).val _).2 $$ [Fd0_dst Fd1_dst]
  · isplitl [Fd0_dst]
    · iexact Fd0_dst
    · iexact Fd1_dst
  set_option sl_exec.stopBefore "k0_part7" in sl_exec
  icases (wholeA_halves c egM (i 0).val (ringA egM (gM.view.read (Elt F) XG) (i 0).val)).1 $$ Sg with ⟨Sg0, Sg1⟩
  icases (wholeA_halves c euM (i 0).val (ringA euM (uM.view.read (Elt F) XU) (i 0).val)).1 $$ Su with ⟨Su0, Su1⟩
  icases (wholeB_halves c edM (i 0).val (ringB edM (dM.view.read (Elt F) XD) (i 0).val)).1 $$ Sd with ⟨Sd0, Sd1⟩
  unfold step.sl.r step.sl.r_2 step.sl.r_3 step.sl.r_1 step.sl.cst_42
  ihave A4 := (store_rep c accM _ _ _ acc' ((step_value c XG XU XD i (i 0).val rfl fnM i1M i2M w1M accM f0 f1 f2 f3 f4 _ _ _ _ _).trans hacc'.symm)) $$ H4
  by_cases h2 : k0_cond2 i = 1#1
  · have h3 : ¬ k0_cond3 i = 1#1 := fun h => by have := (cond2_iff i).1 h2; have := (cond3_iff i).1 h; omega
    ihave Hs := (entails_of_eq (show toStart c XG XU XD ((i 0).val + 3) = homes c XG XU XD ((i 0).val + 3) from if_pos ((cond2_iff i).1 h2))) $$ Hs
    unfold homes
    icases Hs with ⟨Mg0, Mg1, Mu0, Mu1, Md0, Md1⟩
    sl_exec
    sl_step
    unfold step.sl.dma0 step.sl.dma0_1 step.sl.dma0_2 step.sl.dma0_3 step.sl.dma0_4 step.sl.dma0_5
    iapply Hk
    isplitl [H0 H1 H2 H3 A4]
    · isplitl [H0]; · iexact H0
      isplitl [H1]; · iexact H1
      isplitl [H2]; · iexact H2
      isplitl [H3]; · iexact H3
      iexact A4
    isplitl [H10 H11 H12]
    · isplitl [H10]; · iexact H10
      isplitl [H11]; · iexact H11
      iapply (entails_of_eq (congrArg (held c arg12) (if_neg (fun h => h3 ((cond3_iff i).2 h))).symm)) $$ H12
    isplitl [Fg0 Fg1 Fu0 Fu1 Fd0 Fd1]
    · iapply (entails_of_eq (show flights c XG XU XD ((i 0).val + 3) = ringSlot c XG XU XD ((i 0).val + 3) from (if_pos ((cond2_iff i).1 h2)).symm))
      unfold flights
      isplitl [Fg0]; · iapply (flightA_issued3 c egM gM cc0_scratch8 XG (i 0).val 0 (ringA egM (gM.view.read (Elt F) XG) (i 0).val) _ rfl) $$ Fg0
      isplitl [Fg1]; · iapply (flightA_issued3 c egM gM cc0_scratch8 XG (i 0).val 1 (ringA egM (gM.view.read (Elt F) XG) (i 0).val) _ rfl) $$ Fg1
      isplitl [Fu0]; · iapply (flightA_issued3 c euM uM cc0_scratch9 XU (i 0).val 0 (ringA euM (uM.view.read (Elt F) XU) (i 0).val) _ rfl) $$ Fu0
      isplitl [Fu1]; · iapply (flightA_issued3 c euM uM cc0_scratch9 XU (i 0).val 1 (ringA euM (uM.view.read (Elt F) XU) (i 0).val) _ rfl) $$ Fu1
      isplitl [Fd0]; · iapply (flightB_issued3 c edM dM cc0_scratch10 XD (i 0).val 0 (ringB edM (dM.view.read (Elt F) XD) (i 0).val) _ rfl) $$ Fd0
      iapply (flightB_issued3 c edM dM cc0_scratch10 XD (i 0).val 1 (ringB edM (dM.view.read (Elt F) XD) (i 0).val) _ rfl) $$ Fd1
    isplitl [Fg0_src Fg1_src Fu0_src Fu1_src Fd0_src Fd1_src]
    · isplitl [Fg0_src]; · iexact Fg0_src
      isplitl [Fg1_src]; · iexact Fg1_src
      isplitl [Fu0_src]; · iexact Fu0_src
      isplitl [Fu1_src]; · iexact Fu1_src
      isplitl [Fd0_src]; · iexact Fd0_src
      iexact Fd1_src
    iexists _; iexact HW
  · have hq : atRest (F := F) c (i 0).val = ringSlot c XG XU XD ((i 0).val + 3) :=
      ((if_neg (fun h => h2 ((cond2_iff i).2 h))).trans (atRest_add3 c _)).symm
    unfold homes
    by_cases h3 : k0_cond3 i = 1#1
    · sl_exec
      sl_step
      ihave A12 := (store_rep c arg12 _ _ _ _ (last_value accM arg10 arg11 acc' x10 x11 _ _)) $$ H12
      iapply Hk
      isplitl [H0 H1 H2 H3 A4]
      · isplitl [H0]; · iexact H0
        isplitl [H1]; · iexact H1
        isplitl [H2]; · iexact H2
        isplitl [H3]; · iexact H3
        iexact A4
      isplitl [H10 H11 A12]
      · isplitl [H10]; · iexact H10
        isplitl [H11]; · iexact H11
        iapply (entails_of_eq (congrArg (held c arg12) (if_pos ((cond3_iff i).1 h3)).symm)) $$ A12
      isplitl [Fg0 Fg1 Fu0 Fu1 Fd0 Fd1 Sg0 Sg1 Su0 Su1 Sd0 Sd1]
      · iapply (entails_of_eq hq)
        unfold atRest
        isplitl [Sg0 Sg1 Su0 Su1 Sd0 Sd1]
        · isplitl [Sg0]; · iexists _; iexact Sg0
          isplitl [Sg1]; · iexists _; iexact Sg1
          isplitl [Su0]; · iexists _; iexact Su0
          isplitl [Su1]; · iexists _; iexact Su1
          isplitl [Sd0]; · iexists _; iexact Sd0
          iexists _; iexact Sd1
        isplitl [Fg0]; · iexact Fg0
        isplitl [Fg1]; · iexact Fg1
        isplitl [Fu0]; · iexact Fu0
        isplitl [Fu1]; · iexact Fu1
        isplitl [Fd0]; · iexact Fd0
        iexact Fd1
      isplitl [Fg0_src Fg1_src Fu0_src Fu1_src Fd0_src Fd1_src]
      · isplitl [Fg0_src]; · iexact Fg0_src
        isplitl [Fg1_src]; · iexact Fg1_src
        isplitl [Fu0_src]; · iexact Fu0_src
        isplitl [Fu1_src]; · iexact Fu1_src
        isplitl [Fd0_src]; · iexact Fd0_src
        iexact Fd1_src
      iexists _; iexact HW
    · sl_exec
      sl_step
      iapply Hk
      isplitl [H0 H1 H2 H3 A4]
      · isplitl [H0]; · iexact H0
        isplitl [H1]; · iexact H1
        isplitl [H2]; · iexact H2
        isplitl [H3]; · iexact H3
        iexact A4
      isplitl [H10 H11 H12]
      · isplitl [H10]; · iexact H10
        isplitl [H11]; · iexact H11
        iapply (entails_of_eq (congrArg (held c arg12) (if_neg (fun h => h3 ((cond3_iff i).2 h))).symm)) $$ H12
      isplitl [Fg0 Fg1 Fu0 Fu1 Fd0 Fd1 Sg0 Sg1 Su0 Su1 Sd0 Sd1]
      · iapply (entails_of_eq hq)
        unfold atRest
        isplitl [Sg0 Sg1 Su0 Su1 Sd0 Sd1]
        · isplitl [Sg0]; · iexists _; iexact Sg0
          isplitl [Sg1]; · iexists _; iexact Sg1
          isplitl [Su0]; · iexists _; iexact Su0
          isplitl [Su1]; · iexists _; iexact Su1
          isplitl [Sd0]; · iexists _; iexact Sd0
          iexists _; iexact Sd1
        isplitl [Fg0]; · iexact Fg0
        isplitl [Fg1]; · iexact Fg1
        isplitl [Fu0]; · iexact Fu0
        isplitl [Fu1]; · iexact Fu1
        isplitl [Fd0]; · iexact Fd0
        iexact Fd1
      isplitl [Fg0_src Fg1_src Fu0_src Fu1_src Fd0_src Fd1_src]
      · isplitl [Fg0_src]; · iexact Fg0_src
        isplitl [Fg1_src]; · iexact Fg1_src
        isplitl [Fu0_src]; · iexact Fu0_src
        isplitl [Fu1_src]; · iexact Fu1_src
        isplitl [Fd0_src]; · iexact Fd0_src
        iexact Fd1_src
      iexists _; iexact HW

end Cert.Moe

end

end
-- ==== Proof.Boot.lean ====
/-
  The first grid point of the kernel: it starts the transfers of experts 0, 1 and 2, normalises the tokens, routes them, puts the shared
  expert into the accumulator, and goes on as every grid point does, with expert 0.
-/
module

public import proofs.«01_k».proof.Proof.Step

@[expose] public section

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)
variable (XG : Buf (Elt F) (gM.view.loc (c : Thread nD τ))) (XU : Buf (Elt F) (uM.view.loc (c : Thread nD τ)))
  (XD : Buf (Elt F) (dM.view.loc (c : Thread nD τ)))

/-- A memref held at anything. -/
abbrev heldAny {s : Shape} {e : EltTy} (m : Memref sig .tc .vmem s e) : sProp 𝕄 :=
  iprop(∃ f : Buf (Elt F) (m.view.loc (c : Thread nD τ)), m.view.loc (c : Thread nD τ) ↦[m.view.set]{fullShare} f)

/-- What the first point leaves in the accumulator before expert 0: the shared expert. -/
def sharedAcc (x1 : Vec F S512x2048 .f32) (x2 : Vec F S1x2048 .f32) (x4 x5 : Vec F S2048x512 .f32) (x6 : Vec F S512x1024 .f32) : Vec F S512x1024 .f32 :=
  k0_pay14 (k0_pay4 x1 x2) (k0_pay13 x4) x5 x6

set_option maxRecDepth 65536 in
set_option maxHeartbeats 4000000 in
theorem boot (i : grid0.Coords) (hcanon0 : (i 0).val = 0)
    (arg1 : Memref sig .tc .vmem S512x2048 .f32) (harg1 : arg1.IsWhole) (arg2 : Memref sig .tc .vmem S1x2048 .f32) (harg2 : arg2.IsWhole) (arg3 : Memref sig .tc .vmem S2048x8 .f32) (harg3 : arg3.IsWhole)
    (arg4 : Memref sig .tc .vmem S2048x512 .f32) (harg4 : arg4.IsWhole) (arg5 : Memref sig .tc .vmem S2048x512 .f32) (harg5 : arg5.IsWhole) (arg6 : Memref sig .tc .vmem S512x1024 .f32) (harg6 : arg6.IsWhole)
    (arg10 : Memref sig .tc .vmem S1x1024 .f32) (harg10 : arg10.IsWhole) (arg11 : Memref sig .tc .vmem S1x1024 .f32) (harg11 : arg11.IsWhole) (arg12 : Memref sig .tc .vmem S512x1024 .f32) (harg12 : arg12.IsWhole)
    (fnM : Memref sig .tc .vmem S512x2048 .bf16) (hfn : fnM.IsWhole) (i1M : Memref sig .tc .vmem S512x1 .i32) (hi1 : i1M.IsWhole)
    (i2M : Memref sig .tc .vmem S512x1 .i32) (hi2 : i2M.IsWhole) (w1M : Memref sig .tc .vmem S512x1 .f32) (hw1 : w1M.IsWhole)
    (accM : Memref sig .tc .vmem S512x1024 .f32) (hacc : accM.IsWhole)
    (x1 : Vec F S512x2048 .f32) (x2 : Vec F S1x2048 .f32) (x3 : Vec F S2048x8 .f32) (x4 x5 : Vec F S2048x512 .f32) (x6 : Vec F S512x1024 .f32)
    (W : Waits sig Unit) (K : PUnit → sProp 𝕄) :
    iprop((heldAny c fnM ∗ heldAny c i1M ∗ heldAny c i2M ∗ heldAny c w1M ∗ heldAny c accM)
      ∗ (held c arg1 x1 ∗ held c arg2 x2 ∗ held c arg3 x3 ∗ held c arg4 x4 ∗ held c arg5 x5 ∗ held c arg6 x6)
      ∗ (atRest (F := F) c 0 ∗ atRest (F := F) c 1 ∗ atRest (F := F) c 2)
      ∗ (homes c XG XU XD 0 ∗ homes c XG XU XD 1 ∗ homes c XG XU XD 2 ∗ homes c XG XU XD 3) ∗ owes (c : Thread nD τ) 0 W
      ∗ (iprop((held c fnM (k0_pay4 x1 x2) ∗ held c i1M (k0_pay10 (k0_pay3 x1 x2) x3) ∗ held c i2M (k0_pay11 (k0_pay3 x1 x2) x3)
            ∗ held c w1M (k0_pay12 (k0_pay3 x1 x2) x3)
            ∗ held c accM (stepAcc 0 (k0_pay4 x1 x2) (k0_pay10 (k0_pay3 x1 x2) x3) (k0_pay11 (k0_pay3 x1 x2) x3) (k0_pay12 (k0_pay3 x1 x2) x3)
                (sharedAcc x1 x2 x4 x5 x6) (blkA (gM.view.read (Elt F) XG) 0) (blkA (uM.view.read (Elt F) XU) 0) (blkB (dM.view.read (Elt F) XD) 0)))
          ∗ (held c arg1 x1 ∗ held c arg2 x2 ∗ held c arg3 x3 ∗ held c arg4 x4 ∗ held c arg5 x5 ∗ held c arg6 x6)
          ∗ (flights c XG XU XD 1 ∗ flights c XG XU XD 2 ∗ flights c XG XU XD 3) ∗ homes c XG XU XD 0 ∗ (∃ W', owes (c : Thread nD τ) 0 W')) -∗ K ⟨⟩))
    ⊢ wp frame (wpE (defs₀ (F := F)) Variants.none (c : Thread nD τ) none) Set.univ
      (cc0__moe_kernel i arg1 harg1 arg2 harg2 arg3 harg3 arg4 harg4 arg5 harg5 arg6 harg6 gM (Memref.isWhole_whole _) uM (Memref.isWhole_whole _) dM (Memref.isWhole_whole _) arg10 harg10 arg11 harg11 arg12 harg12
        fnM hfn i1M hi1 i2M hi2 w1M hw1 accM hacc egM (Memref.isWhole_whole _) euM (Memref.isWhole_whole _) edM (Memref.isWhole_whole _) cc0_scratch8 cc0_scratch9 cc0_scratch10) K := by
  have h1 : cond1 i = 1#1 := (cond1_iff i).2 hcanon0
  have h2 : k0_cond2 i = 1#1 := (cond2_iff i).2 (by omega)
  have h3 : ¬ k0_cond3 i = 1#1 := fun h => by have := (cond3_iff i).1 h; omega
  simp only [cc0__moe_kernel_eq_skeleton]; unfold cc0__moe_kernel_skel
  unfold held heldAny atRest homes
  iintro ⟨⟨⟨%g0, H0⟩, ⟨%g1, H1⟩, ⟨%g2, H2⟩, ⟨%g3, H3⟩, ⟨%g4, H4⟩⟩, ⟨S1, S2, S3, S4, S5, S6⟩,
    ⟨⟨⟨⟨%pg0, Pg0⟩, ⟨%pg1, Pg1⟩, ⟨%pu0, Pu0⟩, ⟨%pu1, Pu1⟩, ⟨%pd0, Pd0⟩, ⟨%pd1, Pd1⟩⟩, Cg0, Cg1, Cu0, Cu1, Cd0, Cd1⟩,
     ⟨⟨⟨%qg0, Qg0⟩, ⟨%qg1, Qg1⟩, ⟨%qu0, Qu0⟩, ⟨%qu1, Qu1⟩, ⟨%qd0, Qd0⟩, ⟨%qd1, Qd1⟩⟩, Dg0, Dg1, Du0, Du1, Dd0, Dd1⟩,
     ⟨⟨⟨%rg0, Rg0⟩, ⟨%rg1, Rg1⟩, ⟨%ru0, Ru0⟩, ⟨%ru1, Ru1⟩, ⟨%rd0, Rd0⟩, ⟨%rd1, Rd1⟩⟩, Eg0, Eg1, Eu0, Eu1, Ed0, Ed1⟩⟩,
    ⟨⟨Mg0, Mg1, Mu0, Mu1, Md0, Md1⟩, ⟨Ng0, Ng1, Nu0, Nu1, Nd0, Nd1⟩, ⟨Og0, Og1, Ou0, Ou1, Od0, Od1⟩, ⟨Lg0, Lg1, Lu0, Lu1, Ld0, Ld1⟩⟩,
    HW, Hk⟩
  set_option sl_exec.stopBefore "k0_part9" in sl_exec
  have er : boot.sl.r arg1 arg2 x1 x2 = k0_pay3 x1 x2 := by
    unfold boot.sl.r
    rw [View.readAt_rep_full arg1.view x1, View.readAt_rep_full arg2.view x2]
  have er1 : boot.sl.r_1 arg4 x4 = k0_pay13 x4 := by
    unfold boot.sl.r_1
    rw [View.readAt_rep_full arg4.view x4]
  have e250 : boot.sl.v250 arg1 arg2 fnM x1 x2 = k0_pay4 x1 x2 := by
    unfold boot.sl.v250 boot.sl.H0_1
    rw [View.readCov_full, View.readAt_rep_full arg1.view x1, View.readAt_rep_full arg2.view x2]
  -- the stored values
  unfold boot.sl.H0_1
  ihave A0 := (store_rep c fnM g0 inb_S512x2048_S512x2048_0_0 (k0_pay4 (arg1.view.readAt (Elt F) (Rect.unit (s := S512x2048) ![0, 0] S512x2048.size inb_S512x2048_S512x2048_0_0).toLoadRect (arg1.view.rep x1)) (arg2.view.readAt (Elt F) (Rect.unit (s := S1x2048) ![0, 0] S1x2048.size inb_S1x2048_S1x2048_0_0).toLoadRect (arg2.view.rep x2))) (k0_pay4 x1 x2)
    (by rw [View.readAt_rep_full arg1.view x1, View.readAt_rep_full arg2.view x2])) $$ H0
  ihave A1 := (store_rep c i1M g1 inb_S512x1_S512x1_0_0 (k0_pay10 (boot.sl.r arg1 arg2 x1 x2) (arg3.view.readAt (Elt F) (Rect.unit (s := S2048x8) ![0, 0] S2048x8.size inb_S2048x8_S2048x8_0_0).toLoadRect (arg3.view.rep x3))) (k0_pay10 (k0_pay3 x1 x2) x3)
    (by rw [er, View.readAt_rep_full arg3.view x3])) $$ H1
  ihave A2 := (store_rep c i2M g2 inb_S512x1_S512x1_0_0 (k0_pay11 (boot.sl.r arg1 arg2 x1 x2) (arg3.view.readAt (Elt F) (Rect.unit (s := S2048x8) ![0, 0] S2048x8.size inb_S2048x8_S2048x8_0_0).toLoadRect (arg3.view.rep x3))) (k0_pay11 (k0_pay3 x1 x2) x3)
    (by rw [er, View.readAt_rep_full arg3.view x3])) $$ H2
  ihave A3 := (store_rep c w1M g3 inb_S512x1_S512x1_0_0 (k0_pay12 (boot.sl.r arg1 arg2 x1 x2) (arg3.view.readAt (Elt F) (Rect.unit (s := S2048x8) ![0, 0] S2048x8.size inb_S2048x8_S2048x8_0_0).toLoadRect (arg3.view.rep x3))) (k0_pay12 (k0_pay3 x1 x2) x3)
    (by rw [er, View.readAt_rep_full arg3.view x3])) $$ H3
  ihave A4 := (store_rep c accM g4 inb_S512x1024_S512x1024_0_0 (k0_pay14 (boot.sl.v250 arg1 arg2 fnM x1 x2) (boot.sl.r_1 arg4 x4) (arg5.view.readAt (Elt F) (Rect.unit (s := S2048x512) ![0, 0] S2048x512.size inb_S2048x512_S2048x512_0_0).toLoadRect (arg5.view.rep x5))
    (arg6.view.readAt (Elt F) (Rect.unit (s := S512x1024) ![0, 0] S512x1024.size inb_S512x1024_S512x1024_0_0).toLoadRect (arg6.view.rep x6))) (sharedAcc x1 x2 x4 x5 x6)
    (by rw [e250, er1, View.readAt_rep_full arg5.view x5, View.readAt_rep_full arg6.view x6]; rfl)) $$ H4
  -- the transfers of experts 1 and 2
  unfold boot.sl.dma0 boot.sl.dma0_1 boot.sl.dma0_2 boot.sl.dma0_3 boot.sl.dma0_4 boot.sl.dma0_5 boot.sl.dma0_6 boot.sl.dma0_7 boot.sl.dma0_8 boot.sl.dma0_9 boot.sl.dma0_10 boot.sl.dma0_11 boot.sl.dma0_12 boot.sl.dma0_13 boot.sl.dma0_14 boot.sl.dma0_15 boot.sl.dma0_16 boot.sl.dma0_17
  ihave Dg0 := (flightA_at c egM gM cc0_scratch8 XG 1 0 qg0 ⟨11, _⟩ rfl) $$ Dg0
  ihave Dg1 := (flightA_at c egM gM cc0_scratch8 XG 1 1 qg1 ⟨12, _⟩ rfl) $$ Dg1
  ihave Du0 := (flightA_at c euM uM cc0_scratch9 XU 1 0 qu0 ⟨17, _⟩ rfl) $$ Du0
  ihave Du1 := (flightA_at c euM uM cc0_scratch9 XU 1 1 qu1 ⟨18, _⟩ rfl) $$ Du1
  ihave Dd0 := (flightB_at c edM dM cc0_scratch10 XD 1 0 qd0 ⟨23, _⟩ rfl) $$ Dd0
  ihave Dd1 := (flightB_at c edM dM cc0_scratch10 XD 1 1 qd1 ⟨24, _⟩ rfl) $$ Dd1
  ihave Eg0 := (flightA_at c egM gM cc0_scratch8 XG 2 0 rg0 ⟨13, _⟩ rfl) $$ Eg0
  ihave Eg1 := (flightA_at c egM gM cc0_scratch8 XG 2 1 rg1 ⟨14, _⟩ rfl) $$ Eg1
  ihave Eu0 := (flightA_at c euM uM cc0_scratch9 XU 2 0 ru0 ⟨19, _⟩ rfl) $$ Eu0
  ihave Eu1 := (flightA_at c euM uM cc0_scratch9 XU 2 1 ru1 ⟨20, _⟩ rfl) $$ Eu1
  ihave Ed0 := (flightB_at c edM dM cc0_scratch10 XD 2 0 rd0 ⟨25, _⟩ rfl) $$ Ed0
  ihave Ed1 := (flightB_at c edM dM cc0_scratch10 XD 2 1 rd1 ⟨26, _⟩ rfl) $$ Ed1
  sl_exec
  ihave Pg0 := (dstA_landed c egM gM XG 0 0 pg0) $$ Pg0
  ihave Pg1 := (dstA_landed c egM gM XG 0 1 pg1) $$ Pg1
  ihave Pu0 := (dstA_landed c euM uM XU 0 0 pu0) $$ Pu0
  ihave Pu1 := (dstA_landed c euM uM XU 0 1 pu1) $$ Pu1
  ihave Pd0 := (dstB_landed c edM dM XD 0 0 pd0) $$ Pd0
  ihave Pd1 := (dstB_landed c edM dM XD 0 1 pd1) $$ Pd1
  ihave Sg := (wholeA_halves c egM 0 _).2 $$ [Pg0 Pg1]
  · isplitl [Pg0]; · iexact Pg0
    iexact Pg1
  ihave Su := (wholeA_halves c euM 0 _).2 $$ [Pu0 Pu1]
  · isplitl [Pu0]; · iexact Pu0
    iexact Pu1
  ihave Sd := (wholeB_halves c edM 0 _).2 $$ [Pd0 Pd1]
  · isplitl [Pd0]; · iexact Pd0
    iexact Pd1
  set_option sl_exec.stopBefore "k0_part7" in sl_exec
  icases (wholeA_halves c egM 0 (ringA egM (gM.view.read (Elt F) XG) 0)).1 $$ Sg with ⟨Sg0, Sg1⟩
  icases (wholeA_halves c euM 0 (ringA euM (uM.view.read (Elt F) XU) 0)).1 $$ Su with ⟨Su0, Su1⟩
  icases (wholeB_halves c edM 0 (ringB edM (dM.view.read (Elt F) XD) 0)).1 $$ Sd with ⟨Sd0, Sd1⟩
  sl_exec
  sl_step
  unfold boot.sl.r_2 boot.sl.r_4 boot.sl.r_5 boot.sl.r_3 boot.sl.cst_42 boot.sl.dma0_18 boot.sl.dma0_19 boot.sl.dma0_20 boot.sl.dma0_21 boot.sl.dma0_22 boot.sl.dma0_23
  ihave A4 := (store_rep c accM _ _ _ _ (step_value c XG XU XD i 0 hcanon0 fnM i1M i2M w1M accM (k0_pay4 x1 x2) (k0_pay10 (k0_pay3 x1 x2) x3)
    (k0_pay11 (k0_pay3 x1 x2) x3) (k0_pay12 (k0_pay3 x1 x2) x3) (sharedAcc x1 x2 x4 x5 x6) _ _ _ _ _)) $$ A4
  iapply Hk
  isplitl [A0 A1 A2 A3 A4]
  · isplitl [A0]; · iexact A0
    isplitl [A1]; · iexact A1
    isplitl [A2]; · iexact A2
    isplitl [A3]; · iexact A3
    iexact A4
  isplitl [S1 S2 S3 S4 S5 S6]
  · isplitl [S1]; · iexact S1
    isplitl [S2]; · iexact S2
    isplitl [S3]; · iexact S3
    isplitl [S4]; · iexact S4
    isplitl [S5]; · iexact S5
    iexact S6
  isplitl [Dg0 Dg1 Du0 Du1 Dd0 Dd1 Eg0 Eg1 Eu0 Eu1 Ed0 Ed1 Cg0 Cg1 Cu0 Cu1 Cd0 Cd1]
  · unfold flights
    isplitl [Dg0 Dg1 Du0 Du1 Dd0 Dd1]
    · isplitl [Dg0]; · iexact Dg0
      isplitl [Dg1]; · iexact Dg1
      isplitl [Du0]; · iexact Du0
      isplitl [Du1]; · iexact Du1
      isplitl [Dd0]; · iexact Dd0
      iexact Dd1
    isplitl [Eg0 Eg1 Eu0 Eu1 Ed0 Ed1]
    · isplitl [Eg0]; · iexact Eg0
      isplitl [Eg1]; · iexact Eg1
      isplitl [Eu0]; · iexact Eu0
      isplitl [Eu1]; · iexact Eu1
      isplitl [Ed0]; · iexact Ed0
      iexact Ed1
    isplitl [Cg0]; · iapply (flightA_issued3 c egM gM cc0_scratch8 XG 0 0 (ringA egM (gM.view.read (Elt F) XG) 0) ⟨9, _⟩ rfl) $$ Cg0
    isplitl [Cg1]; · iapply (flightA_issued3 c egM gM cc0_scratch8 XG 0 1 (ringA egM (gM.view.read (Elt F) XG) 0) ⟨10, _⟩ rfl) $$ Cg1
    isplitl [Cu0]; · iapply (flightA_issued3 c euM uM cc0_scratch9 XU 0 0 (ringA euM (uM.view.read (Elt F) XU) 0) ⟨15, _⟩ rfl) $$ Cu0
    isplitl [Cu1]; · iapply (flightA_issued3 c euM uM cc0_scratch9 XU 0 1 (ringA euM (uM.view.read (Elt F) XU) 0) ⟨16, _⟩ rfl) $$ Cu1
    isplitl [Cd0]; · iapply (flightB_issued3 c edM dM cc0_scratch10 XD 0 0 (ringB edM (dM.view.read (Elt F) XD) 0) ⟨21, _⟩ rfl) $$ Cd0
    iapply (flightB_issued3 c edM dM cc0_scratch10 XD 0 1 (ringB edM (dM.view.read (Elt F) XD) 0) ⟨22, _⟩ rfl) $$ Cd1
  isplitl [Mg0 Mg1 Mu0 Mu1 Md0 Md1]
  · isplitl [Mg0]; · iexact Mg0
    isplitl [Mg1]; · iexact Mg1
    isplitl [Mu0]; · iexact Mu0
    isplitl [Mu1]; · iexact Mu1
    isplitl [Md0]; · iexact Md0
    iexact Md1
  iexists _; iexact HW

end Cert.Moe

end

end
-- ==== Proof.Cuts.lean ====
/-
  Cutting what the launch hands over — the rings, the stacked weights, the semaphore cells — into the pieces the steps use,
  and putting the pieces back.
-/
module

public import proofs.«01_k».proof.Proof.Pieces

@[expose] public section

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Which elements a piece has -/

theorem slotA_set (M : RingA) (n : ℕ) :
    (slotA M n).view.set = (Rect.unit (s := S3x2048x512) (offW (n % 3)) S1x2048x512.size (offW_A n)).set.map M.view.emb := View.set_slice _ _
theorem slotB_set (M : RingB) (n : ℕ) :
    (slotB M n).view.set = (Rect.unit (s := S3x512x1024) (offW (n % 3)) S1x512x1024.size (offW_B n)).set.map M.view.emb := View.set_slice _ _
theorem grpA_set (M : SrcA) (n : ℕ) (h : Fin 2) :
    (grpA M n h).view.set = (Rect.unit (s := S8x2048x512) (offA (n % 8) h) S1x2048x256.size (offA_grp n h)).set.map M.view.emb :=
  (View.set_reshape _ _).trans (View.set_slice _ _)
theorem grpB_set (M : SrcB) (n : ℕ) (h : Fin 2) :
    (grpB M n h).view.set = (Rect.unit (s := S8x512x1024) (offB (n % 8) h) S1x256x1024.size (offB_grp n h)).set.map M.view.emb :=
  (View.set_reshape _ _).trans (View.set_slice _ _)

theorem mem_slotA (M : RingA) (n : ℕ) (x : S3x2048x512.Idx) : M.view.emb x ∈ (slotA M n).view.set ↔ (x 0).val = n % 3 := by
  refine (iff_of_eq (congrArg (fun a : Finset M.view.ty.Idx => M.view.emb x ∈ a) (slotA_set M n))).trans ((Finset.mem_map' _).trans ?_)
  rw [Rect.mem_set_unit]
  have h1 : (x 1).val < 2048 := (x 1).isLt
  have h2 : (x 2).val < 512 := (x 2).isLt
  constructor
  · intro h; have a : n % 3 ≤ (x 0).val ∧ (x 0).val < n % 3 + 1 := h 0; omega
  · intro h a; fin_cases a
    · show n % 3 ≤ (x 0).val ∧ (x 0).val < n % 3 + 1; omega
    · show 0 ≤ (x 1).val ∧ (x 1).val < 0 + 2048; omega
    · show 0 ≤ (x 2).val ∧ (x 2).val < 0 + 512; omega
theorem mem_slotB (M : RingB) (n : ℕ) (x : S3x512x1024.Idx) : M.view.emb x ∈ (slotB M n).view.set ↔ (x 0).val = n % 3 := by
  refine (iff_of_eq (congrArg (fun a : Finset M.view.ty.Idx => M.view.emb x ∈ a) (slotB_set M n))).trans ((Finset.mem_map' _).trans ?_)
  rw [Rect.mem_set_unit]
  have h1 : (x 1).val < 512 := (x 1).isLt
  have h2 : (x 2).val < 1024 := (x 2).isLt
  constructor
  · intro h; have a : n % 3 ≤ (x 0).val ∧ (x 0).val < n % 3 + 1 := h 0; omega
  · intro h a; fin_cases a
    · show n % 3 ≤ (x 0).val ∧ (x 0).val < n % 3 + 1; omega
    · show 0 ≤ (x 1).val ∧ (x 1).val < 0 + 512; omega
    · show 0 ≤ (x 2).val ∧ (x 2).val < 0 + 1024; omega
theorem mem_grpA (M : SrcA) (n : ℕ) (h : Fin 2) (x : S8x2048x512.Idx) :
    M.view.emb x ∈ (grpA M n h).view.set ↔ (x 0).val = n % 8 ∧ 256 * h.val ≤ (x 2).val ∧ (x 2).val < 256 * h.val + 256 := by
  refine (iff_of_eq (congrArg (fun a : Finset M.view.ty.Idx => M.view.emb x ∈ a) (grpA_set M n h))).trans ((Finset.mem_map' _).trans ?_)
  rw [Rect.mem_set_unit]
  have h1 : (x 1).val < 2048 := (x 1).isLt
  constructor
  · intro k
    have a : n % 8 ≤ (x 0).val ∧ (x 0).val < n % 8 + 1 := k 0
    have b : 256 * h.val ≤ (x 2).val ∧ (x 2).val < 256 * h.val + 256 := k 2
    omega
  · intro k a; fin_cases a
    · show n % 8 ≤ (x 0).val ∧ (x 0).val < n % 8 + 1; omega
    · show 0 ≤ (x 1).val ∧ (x 1).val < 0 + 2048; omega
    · show 256 * h.val ≤ (x 2).val ∧ (x 2).val < 256 * h.val + 256; omega
theorem mem_grpB (M : SrcB) (n : ℕ) (h : Fin 2) (x : S8x512x1024.Idx) :
    M.view.emb x ∈ (grpB M n h).view.set ↔ (x 0).val = n % 8 ∧ 256 * h.val ≤ (x 1).val ∧ (x 1).val < 256 * h.val + 256 := by
  refine (iff_of_eq (congrArg (fun a : Finset M.view.ty.Idx => M.view.emb x ∈ a) (grpB_set M n h))).trans ((Finset.mem_map' _).trans ?_)
  rw [Rect.mem_set_unit]
  have h1 : (x 2).val < 1024 := (x 2).isLt
  constructor
  · intro k
    have a : n % 8 ≤ (x 0).val ∧ (x 0).val < n % 8 + 1 := k 0
    have b : 256 * h.val ≤ (x 1).val ∧ (x 1).val < 256 * h.val + 256 := k 1
    omega
  · intro k a; fin_cases a
    · show n % 8 ≤ (x 0).val ∧ (x 0).val < n % 8 + 1; omega
    · show 256 * h.val ≤ (x 1).val ∧ (x 1).val < 256 * h.val + 256; omega
    · show 0 ≤ (x 2).val ∧ (x 2).val < 0 + 1024; omega

/-- A whole buffer's elements are its memref's. -/
abbrev Full {sp : Space} {s : Shape} {e : EltTy} (M : Memref sig .tc sp s e) : Prop := ∀ i : M.view.ty.Idx, ∃ x, M.view.emb x = i

/-- Blocks that are disjoint and cover. -/
def Parted {α B : Type} [DecidableEq α] [Fintype α] [Fintype B] (I : B → Finset α) : Prop :=
  (∀ b b', b ≠ b' → Disjoint (I b) (I b')) ∧ Finset.univ.biUnion I = Finset.univ

/-- Blocks that a key tells apart and that every key has are disjoint and cover. -/
theorem blocks {X α B : Type} [DecidableEq α] [Fintype α] [Fintype B] (e : X ↪ α) (hM : ∀ i, ∃ x, e x = i) (I : B → Finset α) (k : X → B)
    (hI : ∀ b x, e x ∈ I b ↔ k x = b) : Parted I := by
  constructor
  · intro b b' hb
    rw [Finset.disjoint_left]; intro i h h'
    obtain ⟨x, rfl⟩ := hM i
    exact hb (((hI b x).1 h).symm.trans ((hI b' x).1 h'))
  · ext i; obtain ⟨x, rfl⟩ := hM i
    exact ⟨fun _ => Finset.mem_univ _, fun _ => Finset.mem_biUnion.2 ⟨k x, Finset.mem_univ _, (hI _ x).2 rfl⟩⟩

theorem blocks_slotA (M : RingA) (hM : Full M) : Parted (α := M.view.ty.Idx) (fun b : Fin 3 => (slotA M b.val).view.set) :=
  blocks M.view.emb hM (fun b : Fin 3 => (slotA M b.val).view.set) (fun x => x 0) (fun b x => by
  refine (mem_slotA M b.val x).trans ?_
  rw [Nat.mod_eq_of_lt b.isLt]; exact ⟨fun h => Fin.ext h, fun h => congrArg Fin.val h⟩)
theorem blocks_slotB (M : RingB) (hM : Full M) : Parted (α := M.view.ty.Idx) (fun b : Fin 3 => (slotB M b.val).view.set) :=
  blocks M.view.emb hM (fun b : Fin 3 => (slotB M b.val).view.set) (fun x => x 0) (fun b x => by
  refine (mem_slotB M b.val x).trans ?_
  rw [Nat.mod_eq_of_lt b.isLt]; exact ⟨fun h => Fin.ext h, fun h => congrArg Fin.val h⟩)
/-- A key of a weight array's element: its expert, and which half of the columns (rows) it is in. -/
def halfOf (k : ℕ) : Fin 2 := if k < 256 then 0 else 1
theorem halfOf_eq {k : ℕ} (hk : k < 512) (h : Fin 2) : halfOf k = h ↔ 256 * h.val ≤ k ∧ k < 256 * h.val + 256 := by
  unfold halfOf
  fin_cases h
  · show (if k < 256 then (0 : Fin 2) else 1) = 0 ↔ 256 * 0 ≤ k ∧ k < 256 * 0 + 256
    split <;> simp <;> omega
  · show (if k < 256 then (0 : Fin 2) else 1) = 1 ↔ 256 * 1 ≤ k ∧ k < 256 * 1 + 256
    split <;> simp <;> omega
theorem blocks_grpA (M : SrcA) (hM : Full M) : Parted (α := M.view.ty.Idx) (fun b : Fin 8 × Fin 2 => (grpA M b.1.val b.2).view.set) :=
  blocks M.view.emb hM (fun b : Fin 8 × Fin 2 => (grpA M b.1.val b.2).view.set) (fun x => (x 0, halfOf (x 2).val)) (fun b x => by
  refine (mem_grpA M b.1.val b.2 x).trans ?_
  rw [Nat.mod_eq_of_lt b.1.isLt, ← halfOf_eq (x 2).isLt, Prod.ext_iff]
  exact and_congr ⟨fun h => Fin.ext h, fun h => congrArg Fin.val h⟩ Iff.rfl)
theorem blocks_grpB (M : SrcB) (hM : Full M) : Parted (α := M.view.ty.Idx) (fun b : Fin 8 × Fin 2 => (grpB M b.1.val b.2).view.set) :=
  blocks M.view.emb hM (fun b : Fin 8 × Fin 2 => (grpB M b.1.val b.2).view.set) (fun x => (x 0, halfOf (x 1).val)) (fun b x => by
  refine (mem_grpB M b.1.val b.2 x).trans ?_
  rw [Nat.mod_eq_of_lt b.1.isLt, ← halfOf_eq (x 1).isLt, Prod.ext_iff]
  exact and_congr ⟨fun h => Fin.ext h, fun h => congrArg Fin.val h⟩ Iff.rfl)

section
variable (c : Dev nD)

/-! ## The rings -/

/-- The two halves of a slot, each at some contents. -/
abbrev anyA (M : RingA) (n : ℕ) : sProp 𝕄 := iprop((∃ f, dstA (F := F) c M n 0 f) ∗ (∃ f, dstA (F := F) c M n 1 f))
abbrev anyB (M : RingB) (n : ℕ) : sProp 𝕄 := iprop((∃ f, dstB (F := F) c M n 0 f) ∗ (∃ f, dstB (F := F) c M n 1 f))

theorem anyA_of (M : RingA) (n : ℕ) (f : Buf (Elt F) (M.view.loc (c : Thread nD τ))) : (wholeA c M n f : sProp 𝕄) ⊢ anyA (F := F) c M n := by
  refine (wholeA_halves c M n f).1.trans ?_
  iintro ⟨H0, H1⟩; isplitl [H0]; · iexists f; iexact H0
  iexists f; iexact H1
theorem anyB_of (M : RingB) (n : ℕ) (f : Buf (Elt F) (M.view.loc (c : Thread nD τ))) : (wholeB c M n f : sProp 𝕄) ⊢ anyB (F := F) c M n := by
  refine (wholeB_halves c M n f).1.trans ?_
  iintro ⟨H0, H1⟩; isplitl [H0]; · iexists f; iexact H0
  iexists f; iexact H1
theorem anyA_join (M : RingA) (n : ℕ) : (anyA (F := F) c M n : sProp 𝕄) ⊢ iprop(∃ f, wholeA (F := F) c M n f) := by
  iintro ⟨⟨%f, H0⟩, ⟨%g, H1⟩⟩
  iexists ((halfA M n 1).view.set.piecewise g f)
  unfold wholeA
  iapply (entails_of_eq (congrArg (fun I => ((slotA M n).view.loc (c : Thread nD τ) ↦[I]{fullShare} ((halfA M n 1).view.set.piecewise g f) : sProp 𝕄)) (halfA_union M n)))
  iapply (pointsTo_join (halfA_disjoint M n))
  isplitl [H0]; · iexact H0
  iexact H1
theorem anyB_join (M : RingB) (n : ℕ) : (anyB (F := F) c M n : sProp 𝕄) ⊢ iprop(∃ f, wholeB (F := F) c M n f) := by
  iintro ⟨⟨%f, H0⟩, ⟨%g, H1⟩⟩
  iexists ((halfB M n 1).view.set.piecewise g f)
  unfold wholeB
  iapply (entails_of_eq (congrArg (fun I => ((slotB M n).view.loc (c : Thread nD τ) ↦[I]{fullShare} ((halfB M n 1).view.set.piecewise g f) : sProp 𝕄)) (halfB_union M n)))
  iapply (pointsTo_join (halfB_disjoint M n))
  isplitl [H0]; · iexact H0
  iexact H1

/-- A ring held whole is its three slots' halves, and the halves make the ring. -/
theorem ringA_cut (M : RingA) (hM : Full M) :
    (iprop(∃ f : Buf (Elt F) (M.view.loc (c : Thread nD τ)), M.view.loc (c : Thread nD τ) ↦{fullShare} f) : sProp 𝕄)
      ⊢ iprop(anyA (F := F) c M 0 ∗ anyA (F := F) c M 1 ∗ anyA (F := F) c M 2) := by
  iintro ⟨%f, H⟩
  ihave H := (entails_of_eq (Ring.pointsTo_blocks (ℓ := M.view.loc (c : Thread nD τ)) (fun b : Fin 3 => (slotA M b.val).view.set)
    (blocks_slotA M hM).1 (blocks_slotA M hM).2 (q := fullShare) f)) $$ H
  ihave H := (entails_of_eq (Ring.bigSep_fin3 _)) $$ H
  icases H with ⟨H0, H1, H2⟩
  isplitl [H0]; · iapply (anyA_of c M 0 f); iexact H0
  isplitl [H1]; · iapply (anyA_of c M 1 f); iexact H1
  iapply (anyA_of c M 2 f); iexact H2
theorem ringB_cut (M : RingB) (hM : Full M) :
    (iprop(∃ f : Buf (Elt F) (M.view.loc (c : Thread nD τ)), M.view.loc (c : Thread nD τ) ↦{fullShare} f) : sProp 𝕄)
      ⊢ iprop(anyB (F := F) c M 0 ∗ anyB (F := F) c M 1 ∗ anyB (F := F) c M 2) := by
  iintro ⟨%f, H⟩
  ihave H := (entails_of_eq (Ring.pointsTo_blocks (ℓ := M.view.loc (c : Thread nD τ)) (fun b : Fin 3 => (slotB M b.val).view.set)
    (blocks_slotB M hM).1 (blocks_slotB M hM).2 (q := fullShare) f)) $$ H
  ihave H := (entails_of_eq (Ring.bigSep_fin3 _)) $$ H
  icases H with ⟨H0, H1, H2⟩
  isplitl [H0]; · iapply (anyB_of c M 0 f); iexact H0
  isplitl [H1]; · iapply (anyB_of c M 1 f); iexact H1
  iapply (anyB_of c M 2 f); iexact H2
theorem ringA_join (M : RingA) (hM : Full M) :
    (iprop(anyA (F := F) c M 0 ∗ anyA (F := F) c M 1 ∗ anyA (F := F) c M 2) : sProp 𝕄)
      ⊢ iprop(∃ f : Buf (Elt F) (M.view.loc (c : Thread nD τ)), M.view.loc (c : Thread nD τ) ↦{fullShare} f) := by
  iintro ⟨H0, H1, H2⟩
  ihave H0 := (anyA_join c M 0) $$ H0
  ihave H1 := (anyA_join c M 1) $$ H1
  ihave H2 := (anyA_join c M 2) $$ H2
  icases H0 with ⟨%f, H0⟩
  iapply (Ring.pointsTo_blocks_join_exists (ℓ := M.view.loc (c : Thread nD τ)) (fun b : Fin 3 => (slotA M b.val).view.set)
    (blocks_slotA M hM).1 (blocks_slotA M hM).2 (q := fullShare) f)
  iapply (entails_of_eq (Ring.bigSep_fin3 _).symm)
  isplitl [H0]; · iexists f; iexact H0
  isplitl [H1]; · iexact H1
  iexact H2
theorem ringB_join (M : RingB) (hM : Full M) :
    (iprop(anyB (F := F) c M 0 ∗ anyB (F := F) c M 1 ∗ anyB (F := F) c M 2) : sProp 𝕄)
      ⊢ iprop(∃ f : Buf (Elt F) (M.view.loc (c : Thread nD τ)), M.view.loc (c : Thread nD τ) ↦{fullShare} f) := by
  iintro ⟨H0, H1, H2⟩
  ihave H0 := (anyB_join c M 0) $$ H0
  ihave H1 := (anyB_join c M 1) $$ H1
  ihave H2 := (anyB_join c M 2) $$ H2
  icases H0 with ⟨%f, H0⟩
  iapply (Ring.pointsTo_blocks_join_exists (ℓ := M.view.loc (c : Thread nD τ)) (fun b : Fin 3 => (slotB M b.val).view.set)
    (blocks_slotB M hM).1 (blocks_slotB M hM).2 (q := fullShare) f)
  iapply (entails_of_eq (Ring.bigSep_fin3 _).symm)
  isplitl [H0]; · iexists f; iexact H0
  isplitl [H1]; · iexact H1
  iexact H2

/-! ## The weights -/

theorem grpA_cut (M : SrcA) (hM : Full M) (X : Buf (Elt F) (M.view.loc (c : Thread nD τ))) :
    (M.view.loc (c : Thread nD τ) ↦{fullShare} X : sProp 𝕄) = bigSep Finset.univ fun n : Fin 8 => iprop(homeA c M X n.val 0 ∗ homeA c M X n.val 1) := by
  refine (Ring.pointsTo_blocks (ℓ := M.view.loc (c : Thread nD τ)) (fun b : Fin 8 × Fin 2 => (grpA M b.1.val b.2).view.set)
    (blocks_grpA M hM).1 (blocks_grpA M hM).2 (q := fullShare) X).trans ?_
  refine Eq.trans (bigSep_univ_prod _) ?_
  exact bigSep_congr fun n _ => Ring.bigSep_fin2 _
theorem grpB_cut (M : SrcB) (hM : Full M) (X : Buf (Elt F) (M.view.loc (c : Thread nD τ))) :
    (M.view.loc (c : Thread nD τ) ↦{fullShare} X : sProp 𝕄) = bigSep Finset.univ fun n : Fin 8 => iprop(homeB c M X n.val 0 ∗ homeB c M X n.val 1) := by
  refine (Ring.pointsTo_blocks (ℓ := M.view.loc (c : Thread nD τ)) (fun b : Fin 8 × Fin 2 => (grpB M b.1.val b.2).view.set)
    (blocks_grpB M hM).1 (blocks_grpB M hM).2 (q := fullShare) X).trans ?_
  refine Eq.trans (bigSep_univ_prod _) ?_
  exact bigSep_congr fun n _ => Ring.bigSep_fin2 _

variable (XG : Buf (Elt F) (gM.view.loc (c : Thread nD τ))) (XU : Buf (Elt F) (uM.view.loc (c : Thread nD τ)))
  (XD : Buf (Elt F) (dM.view.loc (c : Thread nD τ)))

theorem homes_pairs (n : ℕ) : (homes c XG XU XD n : sProp 𝕄)
    ⊣⊢ iprop((homeA c gM XG n 0 ∗ homeA c gM XG n 1) ∗ (homeA c uM XU n 0 ∗ homeA c uM XU n 1) ∗ (homeB c dM XD n 0 ∗ homeB c dM XD n 1)) := by
  unfold homes
  constructor
  · iintro ⟨H0, H1, H2, H3, H4, H5⟩
    isplitl [H0 H1]; · isplitl [H0]; · iexact H0
                       iexact H1
    isplitl [H2 H3]; · isplitl [H2]; · iexact H2
                       iexact H3
    isplitl [H4]; · iexact H4
    iexact H5
  · iintro ⟨⟨H0, H1⟩, ⟨H2, H3⟩, H4, H5⟩
    isplitl [H0]; · iexact H0
    isplitl [H1]; · iexact H1
    isplitl [H2]; · iexact H2
    isplitl [H3]; · iexact H3
    isplitl [H4]; · iexact H4
    iexact H5

/-- The stacked weights held whole are the experts' blocks. -/
theorem homes_all :
    (bigSep Finset.univ fun n : Fin 8 => homes c XG XU XD n.val)
      = (iprop((gM.view.loc (c : Thread nD τ) ↦{fullShare} XG) ∗ (uM.view.loc (c : Thread nD τ) ↦{fullShare} XU)
          ∗ (dM.view.loc (c : Thread nD τ) ↦{fullShare} XD)) : sProp 𝕄) := by
  rw [grpA_cut c gM (fun i => ⟨i, rfl⟩) XG, grpA_cut c uM (fun i => ⟨i, rfl⟩) XU, grpB_cut c dM (fun i => ⟨i, rfl⟩) XD, ← bigSep_sep', ← bigSep_sep']
  refine bigSep_congr fun n _ => ?_
  exact equiv_iff.mp ⟨(homes_pairs c XG XU XD n.val).1, (homes_pairs c XG XU XD n.val).2⟩

/-- The blocks at home when step `t` begins: the experts done, and those not yet started. -/
def homesAt (t : ℕ) : sProp 𝕄 := bigSep (Finset.univ.filter fun n : Fin 8 => n.val < t ∨ t + 3 ≤ n.val) fun n => homes c XG XU XD n.val
/-- Those of them that step `t` leaves alone. -/
def homesRest (t : ℕ) : sProp 𝕄 := bigSep (Finset.univ.filter fun n : Fin 8 => n.val < t ∨ t + 4 ≤ n.val) fun n => homes c XG XU XD n.val

theorem homesAt_take (t : ℕ) : homesAt c XG XU XD t = iprop(toStart c XG XU XD (t + 3) ∗ homesRest c XG XU XD t) := by
  unfold homesAt homesRest toStart
  by_cases h : t + 3 < 8
  · rw [if_pos h, show (Finset.univ.filter fun n : Fin 8 => n.val < t ∨ t + 3 ≤ n.val)
      = insert (⟨t + 3, h⟩ : Fin 8) (Finset.univ.filter fun n : Fin 8 => n.val < t ∨ t + 4 ≤ n.val) from by
        ext n; simp only [Finset.mem_insert, Finset.mem_filter, Finset.mem_univ, _root_.true_and, Fin.ext_iff]; omega]
    exact BI.bigSep_insert (by simp only [Finset.mem_filter, Finset.mem_univ, _root_.true_and]; omega)
  · rw [if_neg h, show (Finset.univ.filter fun n : Fin 8 => n.val < t ∨ t + 3 ≤ n.val)
      = (Finset.univ.filter fun n : Fin 8 => n.val < t ∨ t + 4 ≤ n.val) from by
        ext n; simp only [Finset.mem_filter, Finset.mem_univ, _root_.true_and]; omega]
    exact (equiv_iff.mp BI.emp_sep).symm
theorem homesAt_give (t : ℕ) (h : t < 8) : homesAt c XG XU XD (t + 1) = iprop(homes c XG XU XD t ∗ homesRest c XG XU XD t) := by
  unfold homesAt homesRest
  rw [show (Finset.univ.filter fun n : Fin 8 => n.val < t + 1 ∨ t + 1 + 3 ≤ n.val)
      = insert (⟨t, h⟩ : Fin 8) (Finset.univ.filter fun n : Fin 8 => n.val < t ∨ t + 4 ≤ n.val) from by
        ext n; simp only [Finset.mem_insert, Finset.mem_filter, Finset.mem_univ, _root_.true_and, Fin.ext_iff]; omega]
  exact BI.bigSep_insert (by simp only [Finset.mem_filter, Finset.mem_univ, _root_.true_and]; omega)
theorem homes_first : (bigSep Finset.univ fun n : Fin 8 => homes c XG XU XD n.val)
    = iprop(homes c XG XU XD 0 ∗ homes c XG XU XD 1 ∗ homes c XG XU XD 2 ∗ homes c XG XU XD 3 ∗ homesRest c XG XU XD 0) := by
  unfold homesRest
  have e : (Finset.univ : Finset (Fin 8)) = insert 0 (insert 1 (insert 2 (insert 3 (Finset.univ.filter fun n : Fin 8 => n.val < 0 ∨ 0 + 4 ≤ n.val)))) := by decide
  refine (congrArg (fun S => bigSep S fun n : Fin 8 => homes c XG XU XD n.val) e).trans ?_
  rw [BI.bigSep_insert (by decide), BI.bigSep_insert (by decide), BI.bigSep_insert (by decide), BI.bigSep_insert (by decide)]
  rfl
theorem homes_last : homesAt c XG XU XD 8 = (bigSep Finset.univ fun n : Fin 8 => homes c XG XU XD n.val) := by
  unfold homesAt
  rw [show (Finset.univ.filter fun n : Fin 8 => n.val < 8 ∨ 8 + 3 ≤ n.val) = (Finset.univ : Finset (Fin 8)) from by decide]

/-! ## The cells -/

/-- The eighteen cells the transfers are paid on. -/
abbrev osem : Fin 18 → SemLoc sig := fun j => SemLoc.dma ((![cell cc0_scratch8 0 0, cell cc0_scratch8 0 1, cell cc0_scratch8 1 0, cell cc0_scratch8 1 1,
  cell cc0_scratch8 2 0, cell cc0_scratch8 2 1, cell cc0_scratch9 0 0, cell cc0_scratch9 0 1, cell cc0_scratch9 1 0, cell cc0_scratch9 1 1,
  cell cc0_scratch9 2 0, cell cc0_scratch9 2 1, cell cc0_scratch10 0 0, cell cc0_scratch10 0 1, cell cc0_scratch10 1 0, cell cc0_scratch10 1 1,
  cell cc0_scratch10 2 0, cell cc0_scratch10 2 1] : Fin 18 → DmaSems sig S_) j).sem
theorem ownSemFacts : Pipeline.OwnSemFacts spec0 osem := by decide +kernel
theorem ownSems_eq : (Pipeline.ownSems0 (Ix := Unit) (Name := ℕ) (U := Pipeline.UD sig nD τ) (Lvl := ℕ) (Val := Elt F) (τ := τ) osem c : sProp 𝕄)
    = iprop(cellP c cc0_scratch8 0 0 ∗ cellP c cc0_scratch8 0 1 ∗ cellP c cc0_scratch8 1 0 ∗ cellP c cc0_scratch8 1 1 ∗ cellP c cc0_scratch8 2 0 ∗ cellP c cc0_scratch8 2 1
      ∗ cellP c cc0_scratch9 0 0 ∗ cellP c cc0_scratch9 0 1 ∗ cellP c cc0_scratch9 1 0 ∗ cellP c cc0_scratch9 1 1 ∗ cellP c cc0_scratch9 2 0 ∗ cellP c cc0_scratch9 2 1
      ∗ cellP c cc0_scratch10 0 0 ∗ cellP c cc0_scratch10 0 1 ∗ cellP c cc0_scratch10 1 0 ∗ cellP c cc0_scratch10 1 1 ∗ cellP c cc0_scratch10 2 0 ∗ cellP c cc0_scratch10 2 1) := by
  rw [Pipeline.ownSems0_eq_of_list c osem [0, 1, 2, 3, 4, 5, 6, 7, 8, 9, 10, 11, 12, 13, 14, 15, 16, 17] (by decide) (by decide)]; rfl

/-! ## The slots at rest -/

/-- The rings and the cells make the three slots at rest, -/
theorem rest_cut : (iprop(((∃ f : Buf (Elt F) (egM.view.loc (c : Thread nD τ)), egM.view.loc (c : Thread nD τ) ↦{fullShare} f)
      ∗ (∃ f : Buf (Elt F) (euM.view.loc (c : Thread nD τ)), euM.view.loc (c : Thread nD τ) ↦{fullShare} f)
      ∗ (∃ f : Buf (Elt F) (edM.view.loc (c : Thread nD τ)), edM.view.loc (c : Thread nD τ) ↦{fullShare} f))
      ∗ Pipeline.ownSems0 (Ix := Unit) (Name := ℕ) (U := Pipeline.UD sig nD τ) (Lvl := ℕ) (Val := Elt F) (τ := τ) osem c) : sProp 𝕄)
    ⊢ iprop(atRest (F := F) c 0 ∗ atRest (F := F) c 1 ∗ atRest (F := F) c 2) := by
  unfold atRest
  rw [ownSems_eq]
  iintro ⟨⟨HG, HU, HD⟩, Ha0, Ha1, Ha2, Ha3, Ha4, Ha5, Hb0, Hb1, Hb2, Hb3, Hb4, Hb5, Hc0, Hc1, Hc2, Hc3, Hc4, Hc5⟩
  ihave HG := (ringA_cut c egM (fun i => ⟨i, rfl⟩)) $$ HG
  ihave HU := (ringA_cut c euM (fun i => ⟨i, rfl⟩)) $$ HU
  ihave HD := (ringB_cut c edM (fun i => ⟨i, rfl⟩)) $$ HD
  icases HG with ⟨⟨G0, G1⟩, ⟨G2, G3⟩, ⟨G4, G5⟩⟩
  icases HU with ⟨⟨U0, U1⟩, ⟨U2, U3⟩, ⟨U4, U5⟩⟩
  icases HD with ⟨⟨D0, D1⟩, ⟨D2, D3⟩, ⟨D4, D5⟩⟩
  isplitl [G0 G1 U0 U1 D0 D1 Ha0 Ha1 Hb0 Hb1 Hc0 Hc1]
  · isplitl [G0 G1 U0 U1 D0 D1]
    · isplitl [G0]; · iexact G0
      isplitl [G1]; · iexact G1
      isplitl [U0]; · iexact U0
      isplitl [U1]; · iexact U1
      isplitl [D0]; · iexact D0
      iexact D1
    isplitl [Ha0]; · iexact Ha0
    isplitl [Ha1]; · iexact Ha1
    isplitl [Hb0]; · iexact Hb0
    isplitl [Hb1]; · iexact Hb1
    isplitl [Hc0]; · iexact Hc0
    iexact Hc1
  isplitl [G2 G3 U2 U3 D2 D3 Ha2 Ha3 Hb2 Hb3 Hc2 Hc3]
  · isplitl [G2 G3 U2 U3 D2 D3]
    · isplitl [G2]; · iexact G2
      isplitl [G3]; · iexact G3
      isplitl [U2]; · iexact U2
      isplitl [U3]; · iexact U3
      isplitl [D2]; · iexact D2
      iexact D3
    isplitl [Ha2]; · iexact Ha2
    isplitl [Ha3]; · iexact Ha3
    isplitl [Hb2]; · iexact Hb2
    isplitl [Hb3]; · iexact Hb3
    isplitl [Hc2]; · iexact Hc2
    iexact Hc3
  isplitl [G4 G5 U4 U5 D4 D5]
  · isplitl [G4]; · iexact G4
    isplitl [G5]; · iexact G5
    isplitl [U4]; · iexact U4
    isplitl [U5]; · iexact U5
    isplitl [D4]; · iexact D4
    iexact D5
  isplitl [Ha4]; · iexact Ha4
  isplitl [Ha5]; · iexact Ha5
  isplitl [Hb4]; · iexact Hb4
  isplitl [Hb5]; · iexact Hb5
  isplitl [Hc4]; · iexact Hc4
  iexact Hc5

/-- and the three slots at rest make the rings and the cells. -/
theorem rest_join : (iprop(atRest (F := F) c 0 ∗ atRest (F := F) c 1 ∗ atRest (F := F) c 2) : sProp 𝕄)
    ⊢ iprop(((∃ f : Buf (Elt F) (egM.view.loc (c : Thread nD τ)), egM.view.loc (c : Thread nD τ) ↦{fullShare} f)
      ∗ (∃ f : Buf (Elt F) (euM.view.loc (c : Thread nD τ)), euM.view.loc (c : Thread nD τ) ↦{fullShare} f)
      ∗ (∃ f : Buf (Elt F) (edM.view.loc (c : Thread nD τ)), edM.view.loc (c : Thread nD τ) ↦{fullShare} f))
      ∗ Pipeline.ownSems0 (Ix := Unit) (Name := ℕ) (U := Pipeline.UD sig nD τ) (Lvl := ℕ) (Val := Elt F) (τ := τ) osem c) := by
  unfold atRest
  rw [ownSems_eq]
  iintro ⟨⟨⟨G0, G1, U0, U1, D0, D1⟩, Ha0, Ha1, Hb0, Hb1, Hc0, Hc1⟩, ⟨⟨G2, G3, U2, U3, D2, D3⟩, Ha2, Ha3, Hb2, Hb3, Hc2, Hc3⟩,
    ⟨⟨G4, G5, U4, U5, D4, D5⟩, Ha4, Ha5, Hb4, Hb5, Hc4, Hc5⟩⟩
  isplitl [G0 G1 G2 G3 G4 G5 U0 U1 U2 U3 U4 U5 D0 D1 D2 D3 D4 D5]
  · isplitl [G0 G1 G2 G3 G4 G5]
    · iapply (ringA_join c egM (fun i => ⟨i, rfl⟩))
      isplitl [G0 G1]
      · isplitl [G0]; · iexact G0
        iexact G1
      isplitl [G2 G3]
      · isplitl [G2]; · iexact G2
        iexact G3
      isplitl [G4]; · iexact G4
      iexact G5
    isplitl [U0 U1 U2 U3 U4 U5]
    · iapply (ringA_join c euM (fun i => ⟨i, rfl⟩))
      isplitl [U0 U1]
      · isplitl [U0]; · iexact U0
        iexact U1
      isplitl [U2 U3]
      · isplitl [U2]; · iexact U2
        iexact U3
      isplitl [U4]; · iexact U4
      iexact U5
    iapply (ringB_join c edM (fun i => ⟨i, rfl⟩))
    isplitl [D0 D1]
    · isplitl [D0]; · iexact D0
      iexact D1
    isplitl [D2 D3]
    · isplitl [D2]; · iexact D2
      iexact D3
    isplitl [D4]; · iexact D4
    iexact D5
  isplitl [Ha0]; · iexact Ha0
  isplitl [Ha1]; · iexact Ha1
  isplitl [Ha2]; · iexact Ha2
  isplitl [Ha3]; · iexact Ha3
  isplitl [Ha4]; · iexact Ha4
  isplitl [Ha5]; · iexact Ha5
  isplitl [Hb0]; · iexact Hb0
  isplitl [Hb1]; · iexact Hb1
  isplitl [Hb2]; · iexact Hb2
  isplitl [Hb3]; · iexact Hb3
  isplitl [Hb4]; · iexact Hb4
  isplitl [Hb5]; · iexact Hb5
  isplitl [Hc0]; · iexact Hc0
  isplitl [Hc1]; · iexact Hc1
  isplitl [Hc2]; · iexact Hc2
  isplitl [Hc3]; · iexact Hc3
  isplitl [Hc4]; · iexact Hc4
  iexact Hc5

end

end Cert.Moe

end

end
-- ==== Proof.Launch.lean ====
/-
  The launch: what holds between two grid points, the body's triple at each, and the run of the whole program.
-/
module

public import proofs.«01_k».proof.Proof.Step
public import proofs.«01_k».proof.Proof.Boot
public import proofs.«01_k».proof.Proof.Cuts
public import Idealize.ShloMosaic.Lib.Pipeline.TableIdle

@[expose] public section

set_option maxRecDepth 16384

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

section
variable (c : Dev nD)

/-! ## The values along the grid -/

/-- The operands, as the first point's staging buffers hold them. -/
def opX : Vec F S512x2048 .f32 := iblk m c 0 t0_0
def opLn : Vec F S1x2048 .f32 := iblk m c 1 t0_0
def opR : Vec F S2048x8 .f32 := iblk m c 2 t0_0
def opSg : Vec F S2048x512 .f32 := iblk m c 3 t0_0
def opSu : Vec F S2048x512 .f32 := iblk m c 4 t0_0
def opSd : Vec F S512x1024 .f32 := iblk m c 5 t0_0
def opScale : Vec F S1x1024 .f32 := iblk m c 6 t0_7
def opPost : Vec F S1x1024 .f32 := iblk m c 7 t0_7
abbrev opG : Buf (Elt F) (gM.view.loc (c : Thread nD τ)) := V m c main_arg6
abbrev opU : Buf (Elt F) (uM.view.loc (c : Thread nD τ)) := V m c main_arg7
abbrev opD : Buf (Elt F) (dM.view.loc (c : Thread nD τ)) := V m c main_arg8

/-- What the first point leaves beside the accumulator: the normalised tokens, the two chosen experts, the first's weight. -/
def vFn : Vec F S512x2048 .bf16 := k0_pay4 (opX m c) (opLn m c)
def vI1 : Vec F S512x1 .i32 := k0_pay10 (k0_pay3 (opX m c) (opLn m c)) (opR m c)
def vI2 : Vec F S512x1 .i32 := k0_pay11 (k0_pay3 (opX m c) (opLn m c)) (opR m c)
def vW1 : Vec F S512x1 .f32 := k0_pay12 (k0_pay3 (opX m c) (opLn m c)) (opR m c)
/-- The accumulator after the first `n` experts. -/
def accAt : ℕ → Vec F S512x1024 .f32
  | 0 => sharedAcc (opX m c) (opLn m c) (opSg m c) (opSu m c) (opSd m c)
  | n + 1 => stepAcc n (vFn m c) (vI1 m c) (vI2 m c) (vW1 m c) (accAt n) (blkA (gM.view.read (Elt F) (opG m c)) n)
      (blkA (uM.view.read (Elt F) (opU m c)) n) (blkB (dM.view.read (Elt F) (opD m c)) n)
/-- What the last point stores. -/
def result : Vec F S512x1024 .f32 := k0_pay2 (accAt m c 8) (opScale m c) (opPost m c)

/-! ## Between two points -/

abbrev H0 : Finset (Ref sig .tc) := {main_arg6, main_arg7, main_arg8}
theorem H0_sub : H0 ⊆ Pipeline.restRefs sig spec0 := by decide
theorem hbm_eq : (bigSep H0 (fun b => ((c : Thread nD τ).loc b) ↦{fullShare} V m c b) : sProp 𝕄)
    = iprop((gM.view.loc (c : Thread nD τ) ↦{fullShare} opG m c) ∗ (uM.view.loc (c : Thread nD τ) ↦{fullShare} opU m c)
        ∗ (dM.view.loc (c : Thread nD τ) ↦{fullShare} opD m c)) := by
  rw [BI.bigSep_eq_bigSepL_of_eq [main_arg6, main_arg7, main_arg8] (by decide) (by decide)]; rfl

abbrev fnM : Memref sig .tc .vmem S512x2048 .bf16 := Memref.whole cc0_scratch0
abbrev i1M : Memref sig .tc .vmem S512x1 .i32 := Memref.whole cc0_scratch1
abbrev i2M : Memref sig .tc .vmem S512x1 .i32 := Memref.whole cc0_scratch2
abbrev w1M : Memref sig .tc .vmem S512x1 .f32 := Memref.whole cc0_scratch3
abbrev accM : Memref sig .tc .vmem S512x1024 .f32 := Memref.whole cc0_scratch4

theorem heldAny_whole (b : Ref sig .tc) (hb : b.space = .vmem) :
    (iprop(∃ f : Buf (Elt F) ((c : Thread nD τ).loc b), ((c : Thread nD τ).loc b) ↦{fullShare} f) : sProp 𝕄)
      = iprop(∃ f : Buf (Elt F) ((Memref.whole b).view.loc (c : Thread nD τ)),
          (Memref.whole b).view.loc (c : Thread nD τ) ↦[(Memref.whole b).view.set]{fullShare} f) := by
  have e : (Memref.whole b).view.set = Finset.univ := View.set_whole b
  rw [e]

theorem any_fnM : (heldAny (F := F) c fnM : sProp 𝕄) = iprop(∃ f : Buf (Elt F) ((c : Thread nD τ).loc cc0_scratch0), ((c : Thread nD τ).loc cc0_scratch0) ↦{fullShare} f) :=
  (heldAny_whole c cc0_scratch0 rfl).symm
theorem any_i1M : (heldAny (F := F) c i1M : sProp 𝕄) = iprop(∃ f : Buf (Elt F) ((c : Thread nD τ).loc cc0_scratch1), ((c : Thread nD τ).loc cc0_scratch1) ↦{fullShare} f) :=
  (heldAny_whole c cc0_scratch1 rfl).symm
theorem any_i2M : (heldAny (F := F) c i2M : sProp 𝕄) = iprop(∃ f : Buf (Elt F) ((c : Thread nD τ).loc cc0_scratch2), ((c : Thread nD τ).loc cc0_scratch2) ↦{fullShare} f) :=
  (heldAny_whole c cc0_scratch2 rfl).symm
theorem any_w1M : (heldAny (F := F) c w1M : sProp 𝕄) = iprop(∃ f : Buf (Elt F) ((c : Thread nD τ).loc cc0_scratch3), ((c : Thread nD τ).loc cc0_scratch3) ↦{fullShare} f) :=
  (heldAny_whole c cc0_scratch3 rfl).symm
theorem any_accM : (heldAny (F := F) c accM : sProp 𝕄) = iprop(∃ f : Buf (Elt F) ((c : Thread nD τ).loc cc0_scratch4), ((c : Thread nD τ).loc cc0_scratch4) ↦{fullShare} f) :=
  (heldAny_whole c cc0_scratch4 rfl).symm

/-- After `n ≥ 1` points. -/
def inv (n : ℕ) : sProp 𝕄 :=
  iprop((held c fnM (vFn m c) ∗ held c i1M (vI1 m c) ∗ held c i2M (vI2 m c) ∗ held c w1M (vW1 m c) ∗ held c accM (accAt m c n))
    ∗ (ringSlot c (opG m c) (opU m c) (opD m c) n ∗ ringSlot c (opG m c) (opU m c) (opD m c) (n + 1) ∗ ringSlot c (opG m c) (opU m c) (opD m c) (n + 2))
    ∗ homesAt c (opG m c) (opU m c) (opD m c) n ∗ ∃ r, prngReg c r)

abbrev start : sProp 𝕄 := Pipeline.ΦD osem spec0 H0 (V m) c

theorem start_eq : (start m c : sProp 𝕄)
    = iprop((heldAny (F := F) c fnM ∗ heldAny (F := F) c i1M ∗ heldAny (F := F) c i2M ∗ heldAny (F := F) c w1M ∗ heldAny (F := F) c accM
        ∗ (∃ f : Buf (Elt F) (egM.view.loc (c : Thread nD τ)), egM.view.loc (c : Thread nD τ) ↦{fullShare} f)
        ∗ (∃ f : Buf (Elt F) (euM.view.loc (c : Thread nD τ)), euM.view.loc (c : Thread nD τ) ↦{fullShare} f)
        ∗ (∃ f : Buf (Elt F) (edM.view.loc (c : Thread nD τ)), edM.view.loc (c : Thread nD τ) ↦{fullShare} f))
      ∗ (∃ r, prngReg c r)
      ∗ Pipeline.ownSems0 (Ix := Unit) (Name := ℕ) (U := Pipeline.UD sig nD τ) (Lvl := ℕ) (Val := Elt F) (τ := τ) osem c
      ∗ bigSep Finset.univ fun n : Fin 8 => homes c (opG m c) (opU m c) (opD m c) n.val) := by
  unfold start
  rw [Pipeline.ΦD_eq, scopedRest0_eq, hbm_eq, homes_all, any_fnM, any_i1M, any_i2M, any_w1M, any_accM]

/-- The contents a held buffer has are some contents. -/
theorem any_of_held {s : Shape} {e : EltTy} (M : Memref sig .tc .vmem s e) (x : s.Idx → Elt F e) : (held c M x : sProp 𝕄) ⊢ heldAny (F := F) c M := by
  unfold held heldAny
  iintro H; iexists _; iexact H

/-- After the last point everything is as it was at the start. -/
theorem finish : (inv m c 8 : sProp 𝕄) ⊢ start m c := by
  rw [start_eq]
  unfold inv
  rw [show ringSlot c (opG m c) (opU m c) (opD m c) 8 = atRest (F := F) c 2 from (if_neg (by decide)).trans ((atRest_add3 c 5).trans (atRest_add3 c 2)),
    show ringSlot c (opG m c) (opU m c) (opD m c) (8 + 1) = atRest (F := F) c 0 from
      (if_neg (by decide)).trans ((atRest_add3 c 6).trans ((atRest_add3 c 3).trans (atRest_add3 c 0))),
    show ringSlot c (opG m c) (opU m c) (opD m c) (8 + 2) = atRest (F := F) c 1 from
      (if_neg (by decide)).trans ((atRest_add3 c 7).trans ((atRest_add3 c 4).trans (atRest_add3 c 1))), homes_last]
  iintro ⟨⟨Hf, H1, H2, Hw, Ha⟩, ⟨R2, R0, R1⟩, Hh, Hp⟩
  ihave HR := (rest_join (F := F) c) $$ [R0 R1 R2]
  · isplitl [R0]; · iexact R0
    isplitl [R1]; · iexact R1
    iexact R2
  icases HR with ⟨⟨Hg, Hu, Hd⟩, Ho⟩
  isplitl [Hf H1 H2 Hw Ha Hg Hu Hd]
  · isplitl [Hf]; · iapply (any_of_held c fnM (vFn m c)); iexact Hf
    isplitl [H1]; · iapply (any_of_held c i1M (vI1 m c)); iexact H1
    isplitl [H2]; · iapply (any_of_held c i2M (vI2 m c)); iexact H2
    isplitl [Hw]; · iapply (any_of_held c w1M (vW1 m c)); iexact Hw
    isplitl [Ha]; · iapply (any_of_held c accM (accAt m c 8)); iexact Ha
    isplitl [Hg]; · iexact Hg
    isplitl [Hu]; · iexact Hu
    iexact Hd
  isplitl [Hp]; · iexact Hp
  isplitl [Ho]; · iexact Ho
  iexact Hh

/-- The proof data: the arrays as the region finds them; the staged operands left in place; the result's buffer at what
    the last point stores; the invariant. -/
def invAt : ℕ → sProp 𝕄
  | 0 => start m c
  | n + 1 => inv m c (n + 1)

end

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => result m c
  Φ t := invAt m c t.val
  q _ := fullShare
  owed _ := 0

theorem A_eq (c : Dev nD) (w : Fin cfg0.W) : (dats m 0 c).A w = V m c (Pipeline.arrRef spec0 w) := by
  dsimp only [dats]
theorem after_8 (c : Dev nD) (t : Fin cfg0.N) : (dats m 0 c).after 8 t = result m c := by dsimp only [dats]
theorem after_0 (c : Dev nD) (t : Fin cfg0.N) : (dats m 0 c).after 0 t = iblk m c 0 t := by dsimp only [dats]
theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin cfg0.N) : (dats m 0 c).after 1 t = iblk m c 1 t := by dsimp only [dats]
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin cfg0.N) : (dats m 0 c).after 2 t = iblk m c 2 t := by dsimp only [dats]
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (c : Dev nD) (t : Fin cfg0.N) : (dats m 0 c).after 3 t = iblk m c 3 t := by dsimp only [dats]
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem after_4 (c : Dev nD) (t : Fin cfg0.N) : (dats m 0 c).after 4 t = iblk m c 4 t := by dsimp only [dats]
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem after_5 (c : Dev nD) (t : Fin cfg0.N) : (dats m 0 c).after 5 t = iblk m c 5 t := by dsimp only [dats]
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem after_6 (c : Dev nD) (t : Fin cfg0.N) : (dats m 0 c).after 6 t = iblk m c 6 t := by dsimp only [dats]
theorem before_6 (c : Dev nD) (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)
theorem after_7 (c : Dev nD) (t : Fin cfg0.N) : (dats m 0 c).after 7 t = iblk m c 7 t := by dsimp only [dats]
theorem before_7 (c : Dev nD) (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]; try rfl) t d).trans
    (by unfold Dat.fetched Dat.blockOf iblk; rw [A_eq]; try rfl)

end Cert.Moe

end

end
-- ==== Proof.Body.lean ====
/-
  The body's triple at each grid point, and the run of the whole program.
-/
module

public import proofs.«01_k».proof.Proof.Launch

@[expose] public section

set_option maxRecDepth 16384

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem coord_val (t : Fin cfg0.N) : (grid0.coords t 0).val = t.val := by revert t; decide +kernel
theorem point_lt (t : Fin cfg0.N) : t.val < 8 := lt_of_lt_of_eq t.isLt N_0
theorem last_of (t : Fin cfg0.N) (h : t.val = 7) : t = t0_7 := Fin.ext h
theorem first_of (t : Fin cfg0.N) (h : t.val = 0) : t = t0_0 := Fin.ext h
theorem idle_8 (t : Fin cfg0.N) (h : t.val ≠ 7) : cfg0.idle 8 (cfg0.grid.coords t) = true := by revert t; decide +kernel
theorem live_8 (t : Fin cfg0.N) (h : t.val = 7) : cfg0.idle 8 (cfg0.grid.coords t) = false := by revert t; decide +kernel
theorem flush_8 (t : Fin cfg0.N) (h : t.val ≠ 7) : (cfg0.win 8).flush t = false := by
  rw [Bool.eq_false_iff]; intro hf; have := (flush0_8 t).1 hf; have := point_lt t; omega

/-- A buffer owned at contents `x` is a buffer held at `x`. -/
theorem owns_held (c : Dev nD) {sh : Shape} {e : EltTy} (M : Memref sig .tc .vmem sh e) (x : Vec F sh e) :
    (owns (c : Thread nD τ) M fullShare x : sProp 𝕄) = held c M x := owns_eq_rep (c : Thread nD τ) M fullShare x

/-- What the result's staging buffer is left with. -/
theorem leaves_last (c : Dev nD) (t : Fin cfg0.N) (h : t.val = 7) (x : Vec F S512x1024 .f32) (hx : x = result m c) :
    (held c (st0_8 t) x : sProp 𝕄) ⊢ (dats m 0 c).leavesExact 8 t := by
  subst hx
  unfold Dat.leavesExact
  rw [live_8 t h, after_8]
  exact entails_of_eq (owns_held c (st0_8 t) (result m c)).symm
theorem leaves_before (c : Dev nD) (t : Fin cfg0.N) (h : t.val ≠ 7) (d) :
    (owns (c : Thread nD τ) (st0_8 t) fullShare ((dats m 0 c).before 8 t d) : sProp 𝕄) ⊢ (dats m 0 c).leavesExact 8 t := by
  rw [(dats m 0 c).leavesExact_idle 8 t (idle_8 t h) (flush_8 t h)]
  iintro H; iexists d; iexact H

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ (dats m 0 c).leavesExact 8 t)

theorem body_first (c : Dev nD) (t : Fin cfg0.N) (ht : t.val = 0) :
    bodyPre m c t ⊢ wp frame (wpE (defs₀ (F := F)) Variants.none (c : Thread nD τ) none) Set.univ (bodyAt0 t) (fun _ => bodyPost m c t) := by
  have e := first_of t ht
  subst e
  unfold bodyPre bodyPost
  rw [show (dats m 0 c).Φ (t0_0 : Fin cfg0.N).castSucc = start m c from rfl, show (dats m 0 c).Φ (t0_0 : Fin cfg0.N).succ = inv m c 1 from rfl, start_eq, homes_first]
  unfold Dat.owesAt Pipeline.owesWithin
  rw [show (dats m 0 c).owed (t0_0 : Fin cfg0.N).castSucc = 0 from rfl, show (dats m 0 c).owed (t0_0 : Fin cfg0.N).succ = 0 from rfl]
  simp only [before_0, before_1, before_2, before_3, before_4, before_5, before_6, before_7, after_0, after_1, after_2, after_3, after_4, after_5, after_6, after_7]
  iintro ⟨⟨⟨Hf, H1, H2, Hw, Ha, Hg, Hu, Hd⟩, Hp, Ho, Hh0, Hh1, Hh2, Hh3, Hr⟩, ⟨%W, -, HW⟩, ⟨%d0, S0⟩, ⟨%d1, S1⟩, ⟨%d2, S2⟩, ⟨%d3, S3⟩, ⟨%d4, S4⟩, ⟨%d5, S5⟩, ⟨%d6, S6⟩, ⟨%d7, S7⟩, ⟨%d8, S8⟩⟩
  ihave HR := (rest_cut (F := F) c) $$ [Hg Hu Hd Ho]
  · isplitl [Hg Hu Hd]
    · isplitl [Hg]; · iexact Hg
      isplitl [Hu]; · iexact Hu
      iexact Hd
    iexact Ho
  ihave S0 := (entails_of_eq (owns_held c (st0_0 t0_0) (iblk m c 0 t0_0))) $$ S0
  ihave S1 := (entails_of_eq (owns_held c (st0_1 t0_0) (iblk m c 1 t0_0))) $$ S1
  ihave S2 := (entails_of_eq (owns_held c (st0_2 t0_0) (iblk m c 2 t0_0))) $$ S2
  ihave S3 := (entails_of_eq (owns_held c (st0_3 t0_0) (iblk m c 3 t0_0))) $$ S3
  ihave S4 := (entails_of_eq (owns_held c (st0_4 t0_0) (iblk m c 4 t0_0))) $$ S4
  ihave S5 := (entails_of_eq (owns_held c (st0_5 t0_0) (iblk m c 5 t0_0))) $$ S5
  have key := fun K => boot c (opG m c) (opU m c) (opD m c) (grid0.coords t0_0) (coord_val t0_0) (st0_0 t0_0) (hstage0_0 ((cfg0.slots t0_0 0).cast nbuf0_0)) (st0_1 t0_0) (hstage0_1 ((cfg0.slots t0_0 1).cast nbuf0_1)) (st0_2 t0_0) (hstage0_2 ((cfg0.slots t0_0 2).cast nbuf0_2)) (st0_3 t0_0) (hstage0_3 ((cfg0.slots t0_0 3).cast nbuf0_3)) (st0_4 t0_0) (hstage0_4 ((cfg0.slots t0_0 4).cast nbuf0_4)) (st0_5 t0_0) (hstage0_5 ((cfg0.slots t0_0 5).cast nbuf0_5)) (st0_6 t0_0) (hstage0_6 ((cfg0.slots t0_0 6).cast nbuf0_6)) (st0_7 t0_0) (hstage0_7 ((cfg0.slots t0_0 7).cast nbuf0_7)) (st0_8 t0_0) (hstage0_8 ((cfg0.slots t0_0 8).cast nbuf0_8))
    fnM (Memref.isWhole_whole _) i1M (Memref.isWhole_whole _) i2M (Memref.isWhole_whole _) w1M (Memref.isWhole_whole _) accM (Memref.isWhole_whole _)
    (opX m c) (opLn m c) (opR m c) (opSg m c) (opSu m c) (opSd m c) W K
  iapply (key _)
  isplitl [Hf H1 H2 Hw Ha]
  · isplitl [Hf]; · iexact Hf
    isplitl [H1]; · iexact H1
    isplitl [H2]; · iexact H2
    isplitl [Hw]; · iexact Hw
    iexact Ha
  isplitl [S0 S1 S2 S3 S4 S5]
  · isplitl [S0]; · iexact S0
    isplitl [S1]; · iexact S1
    isplitl [S2]; · iexact S2
    isplitl [S3]; · iexact S3
    isplitl [S4]; · iexact S4
    iexact S5
  isplitl [HR]; · iexact HR
  isplitl [Hh0 Hh1 Hh2 Hh3]
  · isplitl [Hh0]; · iexact Hh0
    isplitl [Hh1]; · iexact Hh1
    isplitl [Hh2]; · iexact Hh2
    iexact Hh3
  isplitl [HW]; · iexact HW
  iintro ⟨Hheld, ⟨S0, S1, S2, S3, S4, S5⟩, HR, Hh0, ⟨%W', HW'⟩⟩
  isplitl [Hheld HR Hh0 Hr Hp]
  · unfold inv
    isplitl [Hheld]; · iexact Hheld
    isplitl [HR]; · iexact HR
    isplitl [Hh0 Hr]
    · iapply (entails_of_eq (homesAt_give c (opG m c) (opU m c) (opD m c) 0 (by decide)).symm)
      isplitl [Hh0]; · iexact Hh0
      iexact Hr
    iexact Hp
  isplitl [HW']
  · iexists W'; isplitr; · ipureintro; exact fun _ _ => Or.inl trivial
    iexact HW'
  isplitl [S0]; · iapply (entails_of_eq (owns_held c (st0_0 t0_0) (iblk m c 0 t0_0)).symm); iexact S0
  isplitl [S1]; · iapply (entails_of_eq (owns_held c (st0_1 t0_0) (iblk m c 1 t0_0)).symm); iexact S1
  isplitl [S2]; · iapply (entails_of_eq (owns_held c (st0_2 t0_0) (iblk m c 2 t0_0)).symm); iexact S2
  isplitl [S3]; · iapply (entails_of_eq (owns_held c (st0_3 t0_0) (iblk m c 3 t0_0)).symm); iexact S3
  isplitl [S4]; · iapply (entails_of_eq (owns_held c (st0_4 t0_0) (iblk m c 4 t0_0)).symm); iexact S4
  isplitl [S5]; · iapply (entails_of_eq (owns_held c (st0_5 t0_0) (iblk m c 5 t0_0)).symm); iexact S5
  isplitl [S6]; · iexact S6
  isplitl [S7]; · iexact S7
  iapply (leaves_before m c t0_0 (by decide) d8); iexact S8

theorem body_later (c : Dev nD) (t : Fin cfg0.N) (ht : t.val ≠ 0) :
    bodyPre m c t ⊢ wp frame (wpE (defs₀ (F := F)) Variants.none (c : Thread nD τ) none) Set.univ (bodyAt0 t) (fun _ => bodyPost m c t) := by
  obtain ⟨n, hn⟩ : ∃ n, t.val = n + 1 := ⟨t.val - 1, by omega⟩
  have h8 := point_lt t
  unfold bodyPre bodyPost
  rw [show (dats m 0 c).Φ t.castSucc = invAt m c t.val from rfl, show (dats m 0 c).Φ t.succ = inv m c (t.val + 1) from rfl,
    show invAt m c t.val = inv m c t.val from by rw [hn]; rfl]
  unfold Dat.owesAt Pipeline.owesWithin
  rw [show (dats m 0 c).owed t.castSucc = 0 from rfl, show (dats m 0 c).owed t.succ = 0 from rfl]
  simp only [before_0, before_1, before_2, before_3, before_4, before_5, before_6, before_7, after_0, after_1, after_2, after_3, after_4, after_5, after_6, after_7]
  unfold inv
  rw [homesAt_take, homesAt_give c (opG m c) (opU m c) (opD m c) t.val h8]
  iintro ⟨⟨Hheld, ⟨R0, R1, R2⟩, ⟨Hs, Hr⟩, Hp⟩, ⟨%W, -, HW⟩, ⟨%d0, S0⟩, ⟨%d1, S1⟩, ⟨%d2, S2⟩, ⟨%d3, S3⟩, ⟨%d4, S4⟩, ⟨%d5, S5⟩, ⟨%d6, S6⟩, ⟨%d7, S7⟩, ⟨%d8, S8⟩⟩
  ihave S6 := (entails_of_eq (owns_held c (st0_6 t) (iblk m c 6 t))) $$ S6
  ihave S7 := (entails_of_eq (owns_held c (st0_7 t) (iblk m c 7 t))) $$ S7
  ihave S8 := (entails_of_eq (owns_held c (st0_8 t) ((dats m 0 c).before 8 t d8))) $$ S8
  have key := fun K => step c (opG m c) (opU m c) (opD m c) (grid0.coords t) (by rw [coord_val]; exact ht) (st0_0 t) (hstage0_0 ((cfg0.slots t 0).cast nbuf0_0)) (st0_1 t) (hstage0_1 ((cfg0.slots t 1).cast nbuf0_1)) (st0_2 t) (hstage0_2 ((cfg0.slots t 2).cast nbuf0_2))
    (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8))
    fnM (Memref.isWhole_whole _) i1M (Memref.isWhole_whole _) i2M (Memref.isWhole_whole _) w1M (Memref.isWhole_whole _) accM (Memref.isWhole_whole _)
    (vFn m c) (vI1 m c) (vI2 m c) (vW1 m c) (accAt m c t.val) (accAt m c (t.val + 1)) (iblk m c 6 t) (iblk m c 7 t) ((dats m 0 c).before 8 t d8)
    (by rw [coord_val]; rfl) W K
  rw [coord_val] at key
  iapply (key _)
  isplitl [Hheld]; · iexact Hheld
  isplitl [S6 S7 S8]
  · isplitl [S6]; · iexact S6
    isplitl [S7]; · iexact S7
    iexact S8
  isplitl [R0]; · iexact R0
  isplitl [Hs]; · iexact Hs
  isplitl [HW]; · iexact HW
  iintro ⟨Hheld, ⟨S6, S7, S8⟩, R3, Hh, ⟨%W', HW'⟩⟩
  isplitl [Hheld R1 R2 R3 Hr Hh Hp]
  · isplitl [Hheld]; · iexact Hheld
    isplitl [R1 R2 R3]
    · isplitl [R1]; · iexact R1
      isplitl [R2]; · iexact R2
      iexact R3
    isplitl [Hh Hr]
    · isplitl [Hh]; · iexact Hh
      iexact Hr
    iexact Hp
  isplitl [HW']
  · iexists W'; isplitr; · ipureintro; exact fun _ _ => Or.inl trivial
    iexact HW'
  isplitl [S0]; · iexact S0
  isplitl [S1]; · iexact S1
  isplitl [S2]; · iexact S2
  isplitl [S3]; · iexact S3
  isplitl [S4]; · iexact S4
  isplitl [S5]; · iexact S5
  isplitl [S6]; · iapply (entails_of_eq (owns_held c (st0_6 t) (iblk m c 6 t)).symm); iexact S6
  isplitl [S7]; · iapply (entails_of_eq (owns_held c (st0_7 t) (iblk m c 7 t)).symm); iexact S7
  by_cases h7 : t.val = 7
  · have e := last_of t h7
    subst e
    rw [if_pos h7]
    iapply (leaves_last m c t0_7 h7 _ rfl); iexact S8
  · rw [if_neg h7]
    iapply (leaves_before m c t h7 d8)
    iapply (entails_of_eq (owns_held c (st0_8 t) ((dats m 0 c).before 8 t d8)).symm); iexact S8

end Cert.Moe

end

end
-- ==== Proof.Run.lean ====
/-
  The run of the whole program, and what it leaves alone.
-/
module

public import proofs.«01_k».proof.Proof.Body

@[expose] public section

set_option maxRecDepth 16384

noncomputable section

namespace Cert.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

theorem defs₀_row (t : Fin cfg0.N) :
    defs₀ (F := F) .tc cfg0.body (cfg0.bodyArgs t (cfg0.slots t)) = bodyAt0 t := by
  unfold defs₀; rw [Defs.onTc_tc]

theorem sound_body (c : Dev nD) (t : Fin cfg0.N) :
    bodyPre m c t ⊢ wp frame (wpE (defs₀ (F := F)) Variants.none (c : Thread nD τ) none) Set.univ (bodyAt0 t) (fun _ => bodyPost m c t) := by
  by_cases h : t.val = 0
  · exact body_first m c t h
  · exact body_later m c t h

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option maxHeartbeats 800000 in
theorem around (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The line after the region touches none of the three arrays the kernel moves itself. -/
theorem tail_sub : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut _ _ _ op ((List.forall_iff_forall_mem.mp hostOps1_sub) op hop) (fun k => k.elim0) ?_
  simp only [hostOps1, List.mem_cons, List.mem_nil_iff, or_false] at hop
  rcases hop with rfl
  unfold H0
  intro b hb
  simp only [Finset.mem_insert, Finset.mem_singleton] at hb
  rcases hb with rfl | rfl | rfl <;>
    simp only [StableHlo.reshape_bufs, Finset.mem_insert, Finset.mem_singleton, not_or] <;>
    exact ⟨StableHlo.devRef_ne_of_ne (by decide), StableHlo.devRef_ne_of_ne (by decide)⟩

set_option backward.isDefEq.respectTransparency.types false in
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem defs₀ Variants.none ownSemFacts H0 H0_sub m ρ main
    (hbody := fun c => (body_obligation m c).loose) (hshare := fun c => (dats m 0 c).share_full fun _ => rfl)
    (howed := fun _ _ => rfl) (V₀ := V0 m) (opss := [hostOps1]) (hsub := tail_sub) (hfresh := sfx_fresh) (hkeep := sfx_keeps)
    (hmain := around m Variants.none) (hA := A_eq m)
    (hin := fun _ => .rfl) (hout := fun c => finish m c) (hQ' := fun _ h => h)

/-- An array that the line after the region does not write and that no window stages ends as launched. -/
theorem kept (c : Dev nD) (b : Ref sig .tc) (h1 : b ≠ main_v5) (h2 : ∀ w, Pipeline.arrRef spec0 w ≠ b) :
    Pipeline.afterTail₀ cfgs (dats m) 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.reshape_writes, Finset.mem_singleton]
      exact StableHlo.devRef_ne_of_ne h1)),
    Pipeline.withArrays_of_ne _ c (V0 m c) _ b h2]

/-- A window's operand ends as launched. -/
theorem staged (c : Dev nD) (w : Fin cfg0.W) (h : (cfg0.win w).isOut = false) :
    (dats m 0 c).arrAt w cfg0.N = V m c (Pipeline.arrRef spec0 w) :=
  ((dats m 0 c).arrAt_in w h _).trans (A_eq m c w)

/-- The run leaves every argument as it was and every semaphore at zero. -/
theorem quiet : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c => ⟨((h.1 c).2 main_arg0 (Pipeline.mem_restRefs_of main_arg0 (by decide) (by decide))).trans ((kept m c main_arg0 (by decide) (by decide)).trans (V_main_arg0 m c)),
      ((h.1 c).2 main_arg1 (Pipeline.mem_restRefs_of main_arg1 (by decide) (by decide))).trans ((kept m c main_arg1 (by decide) (by decide)).trans (V_main_arg1 m c)),
      ((h.1 c).1 2).trans ((staged m c 2 rfl).trans (V_main_arg2 m c)),
      ((h.1 c).1 3).trans ((staged m c 3 rfl).trans (V_main_arg3 m c)),
      ((h.1 c).1 4).trans ((staged m c 4 rfl).trans (V_main_arg4 m c)),
      ((h.1 c).1 5).trans ((staged m c 5 rfl).trans (V_main_arg5 m c)),
      ((h.1 c).2 main_arg6 (Pipeline.mem_restRefs_of main_arg6 (by decide) (by decide))).trans ((kept m c main_arg6 (by decide) (by decide)).trans (V_main_arg6 m c)),
      ((h.1 c).2 main_arg7 (Pipeline.mem_restRefs_of main_arg7 (by decide) (by decide))).trans ((kept m c main_arg7 (by decide) (by decide)).trans (V_main_arg7 m c)),
      ((h.1 c).2 main_arg8 (Pipeline.mem_restRefs_of main_arg8 (by decide) (by decide))).trans ((kept m c main_arg8 (by decide) (by decide)).trans (V_main_arg8 m c)),
      ((h.1 c).2 main_arg9 (Pipeline.mem_restRefs_of main_arg9 (by decide) (by decide))).trans ((kept m c main_arg9 (by decide) (by decide)).trans (V_main_arg9 m c)),
      ((h.1 c).2 main_arg10 (Pipeline.mem_restRefs_of main_arg10 (by decide) (by decide))).trans ((kept m c main_arg10 (by decide) (by decide)).trans (V_main_arg10 m c))⟩, h.2⟩) (run_main m ρ)

end Cert.Moe

end

end
-- ==== Proof.RefStages.lean ====
/-
  The reference's result, cut into named stages, each read at an index.
-/
module

public import proofs.«01_k».proof.Proof.Gen.ReferenceIdeal.Run
public import Idealize.ShloMosaic.Lib.Pointwise

@[expose] public section

set_option maxRecDepth 16384

noncomputable section

namespace Cert.MoeRef

open Cert.ReferenceIdeal Cert.ReferenceIdeal.Gen Idealize.ShloMosaic

variable (x0 : FVec Ideal S1x2048x512 .f32) (x1 : FVec Ideal S2048 .f32) (x2 : FVec Ideal S2048x8 .f32)
  (x3 x4 : FVec Ideal S2048x512 .f32) (x5 : FVec Ideal S512x1024 .f32) (x6 x7 : FVec Ideal S8x2048x512 .f32)
  (x8 : FVec Ideal S8x512x1024 .f32) (x9 x10 : FVec Ideal S1024 .f32)

/-- The pooled tokens: four rows of the input make one token. -/
def tokens : FVec Ideal S1x512x2048 .f32 := shapeCast _ x0 shapeCasts_S1x2048x512_S1x512x2048

/-- The tokens normalised and scaled. -/
def normed : FVec Ideal S1x512x2048 .f32 :=
  mulf (broadcastInDim S1x512x2048 ![0, 1, 2] bcast_S1x1x2048_S1x512x2048_0_1_2 (broadcastInDim S1x1x2048 ![2] bcast_S2048_S1x1x2048_2 x1))
    (mulf (tokens x0) (broadcastInDim S1x512x2048 ![0, 1, 2] bcast_S1x512x1_S1x512x2048_0_1_2
      (Host.rsqrt (addf (Host.divf (broadcastInDim S1x512x1 ![0, 1] bcast_S1x512_S1x512x1_0_1
          (Host.reduceAdd (mulf (tokens x0) (tokens x0)) (constant S_ .f32 0x00000000#32) reducesTo_S1x512x2048_S1x512_d2 h_S_))
        (broadcastInDim S1x512x1 ![] bcast_S_S1x512x1 (constant S_ .f32 0x45000000#32)))
        (broadcastInDim S1x512x1 ![] bcast_S_S1x512x1 (constant S_ .f32 0x358637BD#32))))))

/-- `normed` as a matrix, one row a token. -/
def flat : FVec Ideal S512x2048 .f32 := shapeCast _ (normed x0 x1) shapeCasts_S1x512x2048_S512x2048

/-- `g · σ(g)`, over the shared expert's shape. -/
def silu1 (g : FVec Ideal S1x512x512 .f32) : FVec Ideal S1x512x512 .f32 :=
  mulf g (Host.divf (broadcastInDim S1x512x512 ![] bcast_S_S1x512x512 (constant S_ .f32 0x3F800000#32))
    (addf (broadcastInDim S1x512x512 ![] bcast_S_S1x512x512 (constant S_ .f32 0x3F800000#32)) (Host.exp (Host.negf g))))

/-- `g · σ(g)`, over the eight experts' shape. -/
def silu8 (g : FVec Ideal S8x512x512 .f32) : FVec Ideal S8x512x512 .f32 :=
  mulf g (Host.divf (broadcastInDim S8x512x512 ![] bcast_S_S8x512x512 (constant S_ .f32 0x3F800000#32))
    (addf (broadcastInDim S8x512x512 ![] bcast_S_S8x512x512 (constant S_ .f32 0x3F800000#32)) (Host.exp (Host.negf g))))

/-- The shared expert's output. -/
def shared (f : FVec Ideal S1x512x2048 .f32) : FVec Ideal S1x512x1024 .f32 :=
  Host.dotGeneral dot_S1x512x512_S512x1024_S1x512x1024_2_0_01_1_n_n none
    (mulf (silu1 (Host.dotGeneral dot_S1x512x2048_S2048x512_S1x512x512_2_0_01_1_n_n none f x3))
      (Host.dotGeneral dot_S1x512x2048_S2048x512_S1x512x512_2_0_01_1_n_n none f x4)) x5

/-- The router's logits. -/
def logits (f : FVec Ideal S512x2048 .f32) : FVec Ideal S512x8 .f32 :=
  Host.dotGeneral dot_S512x2048_S2048x8_S512x8_1_0_0_1_n_n none f x2

/-- The exponentials of the logits less their greatest. -/
def expo (l : FVec Ideal S512x8 .f32) : FVec Ideal S512x8 .f32 :=
  Host.exp (subf l (broadcastInDim S512x8 ![0, 1] bcast_S512x1_S512x8_0_1 (broadcastInDim S512x1 ![0] bcast_S512_S512x1_0
    (maximumf (broadcastInDim S512 ![] bcast_S_S512 (constant S_ .f32 0xFF800000#32))
      (Host.reduce FloatOps.maximumf l (constant S_ .f32 0xFF800000#32) reducesTo_S512x8_S512_d1 h_S_)))))

/-- The softmax of the logits. -/
def probs (l : FVec Ideal S512x8 .f32) : FVec Ideal S512x8 .f32 :=
  Host.divf (expo l) (broadcastInDim S512x8 ![0, 1] bcast_S512x1_S512x8_0_1 (broadcastInDim S512x1 ![0] bcast_S512_S512x1_0
    (Host.reduceAdd (expo l) (constant S_ .f32 0x00000000#32) reducesTo_S512x8_S512_d1 h_S_)))

/-- The two greatest probabilities, and where they stand. -/
def top (p : FVec Ideal S512x8 .f32) : FVec Ideal S512x2 .f32 :=
  (Host.topK S512x2 1 (FloatOps.cmpfTotal .gt) p sliceFits_S512x8_S512x2).1
def topAt (p : FVec Ideal S512x8 .f32) : IVec S512x2 32 :=
  (Host.topK S512x2 1 (FloatOps.cmpfTotal .gt) p sliceFits_S512x8_S512x2).2

/-- The two weights, made to add up to one. -/
def weights (t : FVec Ideal S512x2 .f32) : FVec Ideal S512x2 .f32 :=
  Host.divf t (broadcastInDim S512x2 ![0, 1] bcast_S512x1_S512x2_0_1 (broadcastInDim S512x1 ![0] bcast_S512_S512x1_0
    (Host.reduceAdd t (constant S_ .f32 0x00000000#32) reducesTo_S512x2_S512_d1 h_S_)))

/-- The weight of each expert at each token. -/
def comb (w : FVec Ideal S512x2 .f32) (at_ : IVec S512x2 32) : FVec Ideal S8x512 .f32 :=
  transpose S8x512 [1, 0] (Host.dotGeneral dot_S512x2x8_S512x2_S512x8_1_1_2_n_0_0 none
    (uitofp .f32 (cmpi .eq (broadcastInDim S512x2x8 ![0, 1, 2] bcast_S512x2x1_S512x2x8_0_1_2 (broadcastInDim S512x2x1 ![0, 1] bcast_S512x2_S512x2x1_0_1 at_))
      (broadcastInDim S512x2x8 ![0, 1, 2] bcast_S1x1x8_S512x2x8_0_1_2 (iotaInDim S1x1x8 32 2)))) w) transposes_S512x8_S8x512_1_0

/-- Every expert's output at every token. -/
def experts (f : FVec Ideal S512x2048 .f32) : FVec Ideal S8x512x1024 .f32 :=
  Host.dotGeneral dot_S8x512x512_S8x512x1024_S8x512x1024_2_1_1_2_0_0 none
    (mulf (silu8 (transpose S8x512x512 [0, 2, 1] (Host.dotGeneral dot_S8x2048x512_S512x2048_S8x512x512_1_1_02_0_n_n none x6 f) transposes_S8x512x512_S8x512x512_0_2_1))
      (transpose S8x512x512 [0, 2, 1] (Host.dotGeneral dot_S8x2048x512_S512x2048_S8x512x512_1_1_02_0_n_n none x7 f) transposes_S8x512x512_S8x512x512_0_2_1)) x8

/-- The experts' outputs, weighted and added up. -/
def routed (w : FVec Ideal S8x512 .f32) (eo : FVec Ideal S8x512x1024 .f32) : FVec Ideal S512x1024 .f32 :=
  Host.dotGeneral dot_S8x512_S8x512x1024_S512x1024_0_0_n_2_1_1 none w eo

/-- The layer's sum, scaled. -/
def scaled (s : FVec Ideal S1x512x1024 .f32) (r : FVec Ideal S512x1024 .f32) : FVec Ideal S1x512x1024 .f32 :=
  mulf (addf s (shapeCast _ r shapeCasts_S512x1024_S1x512x1024))
    (broadcastInDim S1x512x1024 ![0, 1, 2] bcast_S1x1x1024_S1x512x1024_0_1_2 (broadcastInDim S1x1x1024 ![2] bcast_S1024_S1x1x1024_2 x9))

/-- The last normalisation. -/
def final (a : FVec Ideal S1x512x1024 .f32) : FVec Ideal S1x512x1024 .f32 :=
  mulf (broadcastInDim S1x512x1024 ![0, 1, 2] bcast_S1x1x1024_S1x512x1024_0_1_2 (broadcastInDim S1x1x1024 ![2] bcast_S1024_S1x1x1024_2 x10))
    (mulf a (broadcastInDim S1x512x1024 ![0, 1, 2] bcast_S1x512x1_S1x512x1024_0_1_2
      (Host.rsqrt (addf (Host.divf (broadcastInDim S1x512x1 ![0, 1] bcast_S1x512_S1x512x1_0_1
          (Host.reduceAdd (mulf a a) (constant S_ .f32 0x00000000#32) reducesTo_S1x512x1024_S1x512_d2 h_S_))
        (broadcastInDim S1x512x1 ![] bcast_S_S1x512x1 (constant S_ .f32 0x44800000#32)))
        (broadcastInDim S1x512x1 ![] bcast_S_S1x512x1 (constant S_ .f32 0x358637BD#32))))))

/-- The whole reference. -/
def whole : FVec Ideal S1x512x1024 .f32 :=
  final x10 (scaled x9 (shared x3 x4 x5 (normed x0 x1))
    (routed (comb (weights (top (probs (logits x2 (flat x0 x1))))) (topAt (probs (logits x2 (flat x0 x1)))))
      (experts x6 x7 x8 (flat x0 x1))))

set_option maxHeartbeats 4000000 in
theorem whole_eq (m : (ℓ : Loc nD τ sig) → Buf (Elt Ideal) ℓ) (c : Dev nD) :
    Value.res_out0 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10)) := by
  rfl

/-! ## The stages at an index -/

theorem normed_at (n : Fin 512) (d : Fin 2048) : normed x0 x1 (ix3 0 n d)
    = x1 (ix1 d) * (tokens x0 (ix3 0 n d) * Ideal.rsqrt (Ideal.div (∑ x, tokens x0 (ix3 0 n x) * tokens x0 (ix3 0 n x))
        (Ideal.ofBits .f32 1157627904#32) + Ideal.ofBits .f32 897988541#32)) := by
  pointwise [normed]
theorem flat_at (n : Fin 512) (d : Fin 2048) : flat x0 x1 (ix2 n d) = normed x0 x1 (ix3 0 n d) := by
  pointwise [flat]
theorem shared_at (f) (n : Fin 512) (d : Fin 1024) : shared x3 x4 x5 f (ix3 0 n d)
    = ∑ x : Fin 512, ((∑ y : Fin 2048, f (ix3 0 n y) * x3 (ix2 y x)) * Ideal.logistic (∑ y : Fin 2048, f (ix3 0 n y) * x3 (ix2 y x))
        * ∑ y : Fin 2048, f (ix3 0 n y) * x4 (ix2 y x)) * x5 (ix2 x d) := by
  pointwise [shared, silu1, Ideal.logistic]
theorem logits_at (f) (n : Fin 512) (d : Fin 8) : logits x2 f (ix2 n d) = ∑ x : Fin 2048, f (ix2 n x) * x2 (ix2 x d) := by
  pointwise [logits]
theorem expo_at (f) (n : Fin 512) (d : Fin 8) : expo f (ix2 n d)
    = Ideal.exp (f (ix2 n d) - max (Ideal.ofBits .f32 4286578688#32)
        (Finset.fold max (Ideal.ofBits .f32 4286578688#32) (fun x : Fin 8 => f (ix2 n x)) Finset.univ)) := by
  pointwise [expo]
theorem probs_at (f) (n : Fin 512) (d : Fin 8) : probs f (ix2 n d) = Ideal.div (expo f (ix2 n d)) (∑ x : Fin 8, expo f (ix2 n x)) := by
  pointwise [probs]
theorem weights_at (f) (n : Fin 512) (d : Fin 2) : weights f (ix2 n d) = Ideal.div (f (ix2 n d)) (∑ x : Fin 2, f (ix2 n x)) := by
  pointwise [weights]
theorem comb_at (f g) (n : Fin 512) (d : Fin 8) : comb f g (ix2 d n)
    = ∑ x : Fin 2, FloatOps.uitofp (F := Ideal) .f32 (IntOp.cmpi .eq (g (ix2 n x)) (BitVec.ofNat 32 d.val)) * f (ix2 n x) := by
  pointwise [comb]
theorem experts_at (f) (e : Fin 8) (n : Fin 512) (d : Fin 1024) : experts x6 x7 x8 f (ix3 e n d)
    = ∑ x : Fin 512, ((∑ y : Fin 2048, x6 (ix3 e y x) * f (ix2 n y)) * Ideal.logistic (∑ y : Fin 2048, x6 (ix3 e y x) * f (ix2 n y))
        * ∑ y : Fin 2048, x7 (ix3 e y x) * f (ix2 n y)) * x8 (ix3 e x d) := by
  pointwise [experts, silu8, Ideal.logistic]
theorem routed_at (f g) (n : Fin 512) (d : Fin 1024) : routed f g (ix2 n d) = ∑ x : Fin 8, f (ix2 x n) * g (ix3 x n d) := by
  pointwise [routed]
theorem scaled_at (f g) (n : Fin 512) (d : Fin 1024) : scaled x9 f g (ix3 0 n d) = (f (ix3 0 n d) + g (ix2 n d)) * x9 (ix1 d) := by
  pointwise [scaled]
theorem final_at (f) (n : Fin 512) (d : Fin 1024) : final x10 f (ix3 0 n d)
    = x10 (ix1 d) * (f (ix3 0 n d) * Ideal.rsqrt (Ideal.div (∑ x : Fin 1024, f (ix3 0 n x) * f (ix3 0 n x))
        (Ideal.ofBits .f32 1149239296#32) + Ideal.ofBits .f32 897988541#32)) := by
  pointwise [final]

/-- The place of the `k`-th greatest of a row. -/
def place (p : FVec Ideal S512x8 .f32) (n : Fin 512) (k : Fin 2) : Fin 8 :=
  sortedFrom (fun a b : Fin 8 => Ideal.cmpTotal .gt (p (ix2 n a)) (p (ix2 n b)) == 1#1) (k.castLE (by decide))

theorem along_row {n : Fin 512} {k : Fin 2} (h : ∀ a, (ix2 n k a).val < S512x8.size a) (j : Fin 8) :
    Shape.Idx.along (s := S512x8) (fun a => ⟨(ix2 n k a).val, h a⟩) 1 j = ix2 n j := by
  funext a; fin_cases a <;> rfl

theorem top_at (p) (n : Fin 512) (k : Fin 2) : top p (ix2 n k) = p (ix2 n (place p n k)) := by
  unfold top Host.topK Host.sort2 extractStridedSlice
  simp
  rw [along_row]
  refine congrArg p (congrArg (ix2 n) ?_)
  unfold place
  refine congrFun (congrArg sortedFrom ?_) _
  funext a b
  rw [along_row, along_row]
  rfl
theorem topAt_at (p) (n : Fin 512) (k : Fin 2) : topAt p (ix2 n k) = BitVec.ofNat 32 (place p n k).val := by
  unfold topAt Host.topK Host.sort2 extractStridedSlice
  simp
  rw [along_row]
  refine congrArg (fun j : Fin 8 => BitVec.ofNat 32 j.val) ?_
  unfold place
  refine congrFun (congrArg sortedFrom ?_) _
  funext a b
  rw [along_row, along_row]
  rfl

end Cert.MoeRef

end
-- ==== Proof.Operands.lean ====
/-
  What the kernel reads and where its result ends, over the arguments as launched.
-/
module

public import proofs.«01_k».proof.Proof.Run
public import proofs.«01_k».proof.Proof.RefStages
public import Idealize.ShloMosaic.Lib.Pointwise
public import Idealize.ShloMosaic.Lib.Pipeline.ValueKit.Point

@[expose] public section

set_option maxRecDepth 16384

noncomputable section

namespace Cert.Moe

open Cert.KernelIdeal Cert.KernelIdeal.Gen
open Idealize.ShloMosaic
open Idealize.ShloMosaic.TcCoe Idealize.ShloMosaic.Tactic

variable (m : (ℓ : Loc nD τ sig) → Buf (Elt Ideal) ℓ) (c : Dev nD)

/-- Every window's block index at every point. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

theorem opR_eq : opR m c = m ((c : Thread nD τ).loc main_arg2) := by
  unfold opR; blk_ext! [iblk, V, idx t0_0]
theorem opSg_eq : opSg m c = m ((c : Thread nD τ).loc main_arg3) := by
  unfold opSg; blk_ext! [iblk, V, idx t0_0]
theorem opSu_eq : opSu m c = m ((c : Thread nD τ).loc main_arg4) := by
  unfold opSu; blk_ext! [iblk, V, idx t0_0]
theorem opSd_eq : opSd m c = m ((c : Thread nD τ).loc main_arg5) := by
  unfold opSd; blk_ext! [iblk, V, idx t0_0]
theorem opLn_eq : opLn m c = V m c main_v1 := by
  unfold opLn; funext y; blk_ext [iblk, idx t0_0]
theorem opScale_eq : opScale m c = V m c main_v2 := by
  unfold opScale; funext y; blk_ext [iblk, idx t0_7]
theorem opPost_eq : opPost m c = V m c main_v3 := by
  unfold opPost; funext y; blk_ext [iblk, idx t0_7]
theorem opX_eq : opX m c = V m c main_v0 := by
  unfold opX; funext y; blk_ext [iblk, idx t0_0]

/-- What the line before the launch leaves in a buffer. -/
theorem V_line (b : Ref sig .tc) : V m c b = StableHlo.after hostOps0 (fun b => m (c, b)) (Proc.devRef .tc b) := rfl

theorem opLn_at (d : Fin 2048) : opLn m c (ix2 0 d) = m ((c : Thread nD τ).loc main_arg1) (ix1 d) := by
  rw [opLn_eq, V_line]; entry_read; pointwise
theorem opScale_at (d : Fin 1024) : opScale m c (ix2 0 d) = m ((c : Thread nD τ).loc main_arg9) (ix1 d) := by
  rw [opScale_eq, V_line]; entry_read; pointwise
theorem opPost_at (d : Fin 1024) : opPost m c (ix2 0 d) = m ((c : Thread nD τ).loc main_arg10) (ix1 d) := by
  rw [opPost_eq, V_line]; entry_read; pointwise
theorem opX_at (n : Fin 512) (d : Fin 2048) : opX m c (ix2 n d) = Cert.MoeRef.tokens (m ((c : Thread nD τ).loc main_arg0)) (ix3 0 n d) := by
  rw [opX_eq, V_line]; entry_read; pointwise [Cert.MoeRef.tokens]

/-- Expert `e`'s weights, as loaded, are the expert's part of the stacked weights. -/
theorem blkA_at (W : S8x2048x512.Idx → Elt Ideal .f32) (e : Fin 8) (y : Fin 2048) (h : Fin 512) :
    blkA W e.val (ix3 0 y h) = W (ix3 e y h) := by
  refine congrArg W ?_
  funext a; apply Fin.ext
  have he : e.val % 8 = e.val := Nat.mod_eq_of_lt e.isLt
  fin_cases a
  · exact he
  · show 0 + 1 * y.val = y.val; omega
  · show 0 + 1 * h.val = h.val; omega
theorem blkB_at (W : S8x512x1024.Idx → Elt Ideal .f32) (e : Fin 8) (y : Fin 512) (h : Fin 1024) :
    blkB W e.val (ix3 0 y h) = W (ix3 e y h) := by
  refine congrArg W ?_
  funext a; apply Fin.ext
  have he : e.val % 8 = e.val := Nat.mod_eq_of_lt e.isLt
  fin_cases a
  · exact he
  · show 0 + 1 * y.val = y.val; omega
  · show 0 + 1 * h.val = h.val; omega

theorem gate_at (e : Fin 8) (y : Fin 2048) (h : Fin 512) :
    blkA (gM.view.read (Elt Ideal) (opG m c)) e.val (ix3 0 y h) = m ((c : Thread nD τ).loc main_arg6) (ix3 e y h) :=
  (blkA_at _ e y h).trans (congrFun (V_main_arg6 m c) _)
theorem up_at (e : Fin 8) (y : Fin 2048) (h : Fin 512) :
    blkA (uM.view.read (Elt Ideal) (opU m c)) e.val (ix3 0 y h) = m ((c : Thread nD τ).loc main_arg7) (ix3 e y h) :=
  (blkA_at _ e y h).trans (congrFun (V_main_arg7 m c) _)
theorem down_at (e : Fin 8) (y : Fin 512) (h : Fin 1024) :
    blkB (dM.view.read (Elt Ideal) (opD m c)) e.val (ix3 0 y h) = m ((c : Thread nD τ).loc main_arg8) (ix3 e y h) :=
  (blkB_at _ e y h).trans (congrFun (V_main_arg8 m c) _)

/-- The output window's array ends as the last point's result. -/
theorem out_eq : (dats m 0 c).arrAt 8 cfg0.N = result m c := by
  refine (dats m 0 c).arrAt_eq_of_after_last 8 t0_7 (by decide +kernel) _ fun j => ?_
  blk_simp
  rw [after_8]

/-- The program's result is the kernel's, with a leading axis of one. -/
theorem tail_eq : Pipeline.afterTail₀ cfgs (dats m) 0 (V0 m) [hostOps1] c main_v5
    = shapeCast S1x512x1024 (result m c) shapeCasts_S512x1024_S1x512x1024 := by
  rw [← out_eq m c]
  have h := Pipeline.withArrays_arr spec0 winFacts0.arr_inj c (V0 m c) (fun w => (dats m 0 c).arrAt w cfg0.N) 8
  show StableHlo.after hostOps1 (Pipeline.withArrays spec0 c (V0 m c) fun w => (dats m 0 c).arrAt w cfg0.N) (Proc.devRef .tc main_v5) = _
  generalize (dats m 0 c).arrAt 8 cfg0.N = o at h ⊢
  generalize Pipeline.withArrays spec0 c (V0 m c) (fun w => (dats m 0 c).arrAt w cfg0.N) = σ at h ⊢
  entry_read
  exact congrArg (fun z => shapeCast S1x512x1024 z shapeCasts_S512x1024_S1x512x1024) h

end Cert.Moe

end
-- ==== Proof.Reals.lean ====
/-
  Facts about the extended reals: sums, a weight drawn out of a sum, a normalised row is real.
-/
module

public import Idealize.ShloMosaic.Lib.Pointwise

@[expose] public section

noncomputable section

namespace Cert.MoeMath

open Idealize.ShloMosaic

/-- A finite sum of reals, read as an extended real, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A weight that is a nonnegative real goes into a sum, whatever the terms. -/
theorem mul_sum {ι : Type} (s : Finset ι) (c : EReal) (h0 : 0 ≤ c) (ht : c ≠ ⊤) (f : ι → EReal) :
    c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-- The pattern of −∞ denotes −∞. -/
theorem bits_bot : Ideal.ofBits .f32 0xFF800000#32 = ⊥ := by simp [Ideal.ofBits, Ideal.ieee]
/-- The pattern of +∞ denotes +∞. -/
theorem bits_top : Ideal.ofBits .f32 0x7F800000#32 = ⊤ := by simp [Ideal.ofBits, Ideal.ieee]
/-- The row's length is a positive real. -/
theorem bits_len : ∃ r : ℝ, 0 < r ∧ Ideal.ofBits .f32 0x45000000#32 = (r : EReal) := by
  refine ⟨2048, by norm_num, ?_⟩
  simp [Ideal.ofBits, Ideal.ieee, -EReal.coe_mul]; norm_num
/-- The norm's small constant is a positive real. -/
theorem bits_eps : ∃ r : ℝ, 0 < r ∧ Ideal.ofBits .f32 0x358637BD#32 = (r : EReal) := by
  refine ⟨(2 ^ 23 + 407485 : ℕ) * (2 : ℝ) ^ (-43 : ℤ), by positivity, ?_⟩
  simp [Ideal.ofBits, Ideal.ieee, -EReal.coe_mul]

theorem div_real {x y : ℝ} (hy : y ≠ 0) : Ideal.div (x : EReal) (y : EReal) = ((x / y : ℝ) : EReal) := by
  rw [Ideal.div, if_neg (by exact_mod_cast hy), div_eq_mul_inv, EReal.coe_mul, EReal.coe_inv]

theorem exp_real (x : ℝ) : Ideal.exp (x : EReal) = ((Real.exp x : ℝ) : EReal) := rfl

theorem rsqrt_real {x : ℝ} (hx : 0 < x) : Ideal.rsqrt (x : EReal) = (((Real.sqrt x)⁻¹ : ℝ) : EReal) := by
  show (if x < 0 then (⊥ : EReal) else if x = 0 then ⊤ else _) = _
  rw [if_neg (not_lt.mpr hx.le), if_neg hx.ne']

theorem sq_nonneg (x : EReal) : 0 ≤ x * x := by
  induction x with
  | bot => simp
  | top => simp
  | coe r => exact_mod_cast mul_self_nonneg r

/-- An element of a row over the root of the row's mean square, the mean kept off zero, is a real, whatever the row. -/
theorem normed_real {K : ℕ} (h : Fin K → EReal) (d : Fin K) (c e : EReal) (hc : ∃ r : ℝ, 0 < r ∧ c = r)
    (he : ∃ r : ℝ, 0 < r ∧ e = r) : ∃ y : ℝ, h d * Ideal.rsqrt (Ideal.div (∑ j, h j * h j) c + e) = y := by
  obtain ⟨c, hc0, rfl⟩ := hc
  obtain ⟨e, he0, rfl⟩ := he
  by_cases hf : ∀ j, ∃ r : ℝ, h j = r
  · choose r hr using hf
    have hs : ∑ j, h j * h j = ((∑ j, r j * r j : ℝ) : EReal) := by
      rw [coe_sum]; exact Finset.sum_congr rfl fun j _ => by rw [hr, EReal.coe_mul]
    have hp : 0 < (∑ j, r j * r j) / c + e :=
      add_pos_of_nonneg_of_pos (div_nonneg (Finset.sum_nonneg fun j _ => mul_self_nonneg _) hc0.le) he0
    rw [hs, div_real hc0.ne', ← EReal.coe_add, rsqrt_real hp, hr, ← EReal.coe_mul]
    exact ⟨_, rfl⟩
  · obtain ⟨j, hj⟩ := not_forall.mp hf
    have hjj : h j * h j = ⊤ := by
      generalize h j = x at hj ⊢
      induction x with
      | bot => simp
      | top => simp
      | coe r => exact absurd ⟨r, rfl⟩ hj
    have hs : ∑ j, h j * h j = ⊤ := by
      refine top_le_iff.mp (hjj ▸ ?_)
      exact Finset.single_le_sum (f := fun j => h j * h j) (fun i _ => sq_nonneg _) (Finset.mem_univ j)
    have hd : Ideal.div ⊤ (c : EReal) = ⊤ := by
      rw [Ideal.div, if_neg (by exact_mod_cast hc0.ne'), ← EReal.coe_inv, EReal.top_mul_coe_of_pos (inv_pos.mpr hc0)]
    rw [hs, hd, EReal.top_add_coe]
    exact ⟨0, by show h d * 0 = _; simp⟩

/-- A product of two rows of reals is a real. -/
theorem dot_real {K : ℕ} (f w : Fin K → EReal) (hf : ∀ j, ∃ r : ℝ, f j = r) (hw : ∀ j, ∃ r : ℝ, w j = r) :
    ∃ y : ℝ, ∑ j, f j * w j = y := by
  choose r hr using hf
  choose s hs using hw
  refine ⟨∑ j, r j * s j, ?_⟩
  rw [coe_sum]; exact Finset.sum_congr rfl fun j _ => by rw [hr, hs, EReal.coe_mul]

/-- What has an absolute value below +∞ is a real. -/
theorem real_of_abs_lt {x : EReal} (h : max x (-x) < ⊤) : ∃ r : ℝ, x = r := by
  induction x with
  | bot => simp at h
  | top => simp at h
  | coe r => exact ⟨r, rfl⟩

end Cert.MoeMath

end
-- ==== Proof.Routing.lean ====
/-
  One token's routing over the reals: the two greatest logits as the kernel finds them and as the reference does, and
  the weights the two give each expert.
-/
module

public import proofs.«01_k».proof.Proof.Reals
public import Idealize.ShloMosaic.Lib.SortPrefix

@[expose] public section

noncomputable section

namespace Cert.MoeMath

open Idealize.ShloMosaic

/-- `a` is the first place where `f` is greatest. -/
def First {ι : Type} (s : ι → Prop) (f : ι → EReal) [LE ι] (a : ι) : Prop :=
  s a ∧ ∀ j, s j → f j < f a ∨ f j = f a ∧ a ≤ j

theorem exists_first {n : ℕ} (s : Fin n → Prop) (f : Fin n → EReal) (h : ∃ a, s a) : ∃ a, First s f a := by
  classical
  obtain ⟨x, hx⟩ := h
  obtain ⟨b, hb, hmax⟩ := Finset.exists_max_image (Finset.univ.filter s) f ⟨x, by simpa using hx⟩
  have hne : ((Finset.univ.filter s).filter fun j => f j = f b).Nonempty := ⟨b, by simpa using hb⟩
  have hm := Finset.min'_mem _ hne
  generalize ha : Finset.min' _ hne = a at hm
  simp only [Finset.mem_filter, Finset.mem_univ, true_and] at hm hb
  refine ⟨a, hm.1, fun j hj => ?_⟩
  rcases lt_or_eq_of_le (hmax j (by simpa using hj)) with hlt | heq
  · exact .inl (hm.2 ▸ hlt)
  · exact .inr ⟨heq.trans hm.2.symm, ha ▸ Finset.min'_le _ _ (by simpa using ⟨hj, heq⟩)⟩

theorem First.le {n : ℕ} {s : Fin n → Prop} {f : Fin n → EReal} {a : Fin n} (h : First s f a) (j : Fin n) (hj : s j) :
    f j ≤ f a := (h.2 j hj).elim (·.le) (·.1.le)

/-- The running maximum from −∞ is the value at the first greatest place. -/
theorem fold_max_first {n : ℕ} {f : Fin n → EReal} {a : Fin n} (h : First (fun _ => True) f a) :
    Finset.fold max ⊥ f Finset.univ = f a :=
  le_antisymm ((Finset.fold_max_le _).mpr ⟨bot_le, fun j _ => h.le j trivial⟩)
    ((Finset.le_fold_max _).mpr (.inr ⟨a, Finset.mem_univ a, le_rfl⟩))

theorem toInt_min (a b : BitVec 32) : (IntOp.minsi a b).toInt = min a.toInt b.toInt := by
  unfold IntOp.minsi
  by_cases h : a.slt b
  · rw [if_pos h, min_eq_left (BitVec.slt_iff_toInt_lt.mp h).le]
  · rw [if_neg h, min_eq_right (not_lt.mp fun hh => h (BitVec.slt_iff_toInt_lt.mpr hh))]

theorem toInt_place (j : Fin 8) : (BitVec.ofNat 32 j.val).toInt = (j.val : ℤ) := by
  fin_cases j <;> rfl

/-- The least number of a place where `f` is greatest is the first such place. -/
theorem fold_min_first {f : Fin 8 → EReal} {a : Fin 8} (h : First (fun _ => True) f a) :
    Finset.fold IntOp.minsi (2147483647#32) (fun j => if f j = f a then BitVec.ofNat 32 j.val else 8#32) Finset.univ
      = BitVec.ofNat 32 a.val := by
  refine BitVec.toInt_inj.mp ?_
  rw [← Finset.fold_hom (op' := min) (m := BitVec.toInt) (fun x y => toInt_min x y), toInt_place]
  have ha := a.isLt
  refine le_antisymm ((Finset.fold_min_le _).mpr (.inr ⟨a, Finset.mem_univ a, ?_⟩)) ((Finset.le_fold_min _).mpr ⟨?_, fun j _ => ?_⟩)
  · rw [if_pos rfl, toInt_place]
  · show (a.val : ℤ) ≤ 2147483647; omega
  · split
    · rename_i e
      rw [toInt_place]
      rcases h.2 j trivial with hl | ⟨_, hl⟩
      · exact absurd e hl.ne
      · exact_mod_cast hl
    · show (a.val : ℤ) ≤ 8; omega

/-- A row with its greatest struck out is greatest first where the rest is. -/
theorem First.masked {f : Fin 8 → EReal} {a b : Fin 8} (hf : ∀ j, ∃ r : ℝ, f j = r) (hb : First (fun j => j ≠ a) f b) :
    First (fun _ => True) (fun j => if j = a then ⊥ else f j) b := by
  refine ⟨trivial, fun j _ => ?_⟩
  dsimp only
  rw [if_neg hb.1]
  obtain ⟨r, hr⟩ := hf b
  by_cases hj : j = a
  · rw [if_pos hj, hr]; exact .inl (EReal.bot_lt_coe r)
  · rw [if_neg hj]; exact hb.2 j hj

/-! ## The sort that a top-k is -/

/-- A sort whose list has equal elements in order needs no comparison of places: two comparisons that agree on every
    later element against every earlier one sort it alike. -/
theorem stableSort_agree {ι : Type} (R R' : ι → ι → Bool) (l : List ι) (h : l.Pairwise fun a b => R b a = R' b a) :
    stableSort R l = stableSort R' l := by
  induction l with
  | nil => rfl
  | cons a l ih =>
    rw [List.pairwise_cons] at h
    unfold stableSort
    rw [ih h.2]
    exact insertBefore_congr R R' a _ fun b hb => h.1 b ((perm_stableSort R' l).mem_iff.mp hb)

theorem sortedFrom_agree {n : ℕ} (R R' : Fin n → Fin n → Bool) (h : ∀ a b, a < b → R b a = R' b a) :
    sortedFrom R = sortedFrom R' := by
  funext k
  have e : sortPositions n R = sortPositions n R' :=
    stableSort_agree R R' _ ((List.pairwise_lt_finRange n).imp fun hab => h _ _ hab)
  unfold sortedFrom
  rw [List.get_of_eq e]
  rfl

/-- The first two places of a sort by the greater first. -/
theorem sorted_two {p : Fin 8 → EReal} {a b : Fin 8} (ha : First (fun _ => True) p a) (hb : First (fun j => j ≠ a) p b) (i : Fin 2) :
    sortedFrom (fun k k' : Fin 8 => Ideal.cmpTotal .gt (p k) (p k') == 1#1) (i.castLE (by decide)) = ![a, b] i := by
  have hB := StrictTotalBefore.of_key_then_position (n := 8) (fun x y : EReal => decide (y < x)) p (fun a => by simp)
    (fun a b c h h' => by simp only [decide_eq_true_eq] at *; exact h'.trans h)
    (fun a b => by
      simp only [decide_eq_true_eq]
      rcases lt_trichotomy b a with h | h | h
      · exact .inl h
      · exact .inr (.inl h.symm)
      · exact .inr (.inr h))
  have hc : ∀ x y : EReal, (Ideal.cmpTotal .gt x y == 1#1) = decide (y < x) := fun x y => by
    show (BitVec.ofBool (decide (y < x)) == 1#1) = _
    cases decide (y < x) <;> rfl
  rw [sortedFrom_agree _ _ (fun k k' hk => show _ = (decide (p k < p k') || (decide (p k' = p k) && decide (k' < k))) by
    rw [hc]; simp [not_lt.mpr hk.le])]
  refine hB.sortedFrom_eq_of_prefix (by decide) ![a, b] ?_ ?_ ?_ i
  · intro x y hxy
    have := hb.1
    fin_cases x <;> fin_cases y <;> simp_all
  · intro x y hxy
    have h := ha.2 b trivial
    have hne := hb.1
    fin_cases x <;> fin_cases y <;> simp at hxy ⊢
    rcases h with h | ⟨h, h'⟩
    · exact ⟨h.le, fun e => absurd e h.ne⟩
    · exact ⟨h.le, fun _ => h'⟩
  · intro x q hq
    have h0 : q ≠ a := fun e => hq 0 e.symm
    have key : ∀ z, (p q < p z ∨ p q = p z ∧ z ≤ q) →
        (decide (p z < p q) || (decide (p q = p z) && decide (q < z))) = false := by
      intro z hz
      rcases hz with h | ⟨h, h'⟩
      · simp [h.ne, h.le]
      · simp [h, h']
    fin_cases x
    · exact key a (ha.2 q trivial)
    · exact key b (hb.2 q h0)

end Cert.MoeMath

end
-- ==== Proof.Shares.lean ====
/-
  One token's shares over the reals: the softmax's two greatest, made to add up to one, are the logistic function of the
  difference of the two logits and its complement.
-/
module

public import proofs.«01_k».proof.Proof.Routing

@[expose] public section

noncomputable section

namespace Cert.MoeMath

open Idealize.ShloMosaic

/-- Expert `e`'s share of a token whose first choice is `a` with weight `w` and whose second choice is `b`. -/
def share (a b : Fin 8) (w : EReal) (e : Fin 8) : EReal := (if a = e then w else 0) + (if b = e then 1 - w else 0)

/-- The softmax of a row of logits. -/
def soft (l : Fin 8 → EReal) (j : Fin 8) : EReal :=
  Ideal.div (Ideal.exp (l j - max ⊥ (Finset.fold max ⊥ l Finset.univ)))
    (∑ k, Ideal.exp (l k - max ⊥ (Finset.fold max ⊥ l Finset.univ)))

/-- A first greatest place stays one under a map that keeps the order. -/
theorem First.mono {s : Fin 8 → Prop} {f g : Fin 8 → EReal} {a : Fin 8} (h : First s f a) (hlt : ∀ j k, f j < f k → g j < g k)
    (heq : ∀ j k, f j = f k → g j = g k) : First s g a :=
  ⟨h.1, fun j hj => (h.2 j hj).elim (fun c => .inl (hlt j a c)) fun c => .inr ⟨heq j a c.1, c.2⟩⟩

theorem logistic_real (x : ℝ) : Ideal.logistic (x : EReal) = ((1 / (1 + Real.exp (-x)) : ℝ) : EReal) := by
  have h : (1 + Real.exp (-x)) ≠ 0 := (add_pos one_pos (Real.exp_pos _)).ne'
  rw [Ideal.logistic, ← EReal.coe_neg, exp_real, ← EReal.coe_one, ← EReal.coe_add, div_real h]

/-- Two places are one exactly if their words are. -/
theorem place_eq (j e : Fin 8) : IntOp.cmpi .eq (BitVec.ofNat 32 j.val) (BitVec.ofNat 32 e.val) = if j = e then 1#1 else 0#1 := by
  revert j e; decide

variable {l : Fin 8 → EReal} {a b : Fin 8}

/-- The softmax of real logits, in reals. -/
theorem soft_real (r : Fin 8 → ℝ) (hr : ∀ j, l j = r j) (ha : First (fun _ => True) l a) (j : Fin 8) :
    soft l j = ((Real.exp (r j - r a) / ∑ k, Real.exp (r k - r a) : ℝ) : EReal) := by
  have hS : (∑ k, Real.exp (r k - r a)) ≠ 0 := (Finset.sum_pos (fun k _ => Real.exp_pos _) ⟨a, Finset.mem_univ a⟩).ne'
  have he : ∀ k, Ideal.exp (l k - l a) = ((Real.exp (r k - r a) : ℝ) : EReal) := fun k => by
    rw [hr, hr, ← EReal.coe_sub, exp_real]
  rw [soft, fold_max_first ha, max_eq_right bot_le, he, Finset.sum_congr rfl fun k _ => he k, ← coe_sum, div_real hS]

/-- The softmax's first greatest places are the logits'. -/
theorem First.soft (hr : ∀ j, ∃ r : ℝ, l j = r) (ha : First (fun _ => True) l a) {s : Fin 8 → Prop} {c : Fin 8}
    (hc : First s l c) : First s (soft l) c := by
  choose r hr using hr
  have hS : 0 < (∑ k, Real.exp (r k - r a)) := Finset.sum_pos (fun k _ => Real.exp_pos _) ⟨a, Finset.mem_univ a⟩
  refine hc.mono (fun j k h => ?_) fun j k h => ?_
  · rw [soft_real r hr ha, soft_real r hr ha, EReal.coe_lt_coe_iff]
    rw [hr, hr, EReal.coe_lt_coe_iff] at h
    exact div_lt_div_of_pos_right (Real.exp_lt_exp.mpr (by linarith)) hS
  · rw [hr, hr, EReal.coe_eq_coe_iff] at h
    rw [soft_real r hr ha, soft_real r hr ha, h]

/-- The two weights of the reference. -/
theorem soft_first (hr : ∀ j, ∃ r : ℝ, l j = r) (ha : First (fun _ => True) l a) :
    Ideal.div (soft l a) (soft l a + soft l b) = Ideal.logistic (l a - l b)
      ∧ Ideal.div (soft l b) (soft l a + soft l b) = 1 - Ideal.logistic (l a - l b) := by
  choose r hr using hr
  have hS : 0 < (∑ k, Real.exp (r k - r a)) := Finset.sum_pos (fun k _ => Real.exp_pos _) ⟨a, Finset.mem_univ a⟩
  rw [soft_real r hr ha, soft_real r hr ha, hr a, hr b, ← EReal.coe_sub, logistic_real, ← EReal.coe_add, ← EReal.coe_one, ← EReal.coe_sub]
  generalize (∑ k, Real.exp (r k - r a)) = S at hS ⊢
  have hb : 0 < Real.exp (r b - r a) := Real.exp_pos _
  have hn : -(r a - r b) = r b - r a := by ring
  have hp : 0 < Real.exp (r a - r a) / S + Real.exp (r b - r a) / S := by positivity
  rw [div_real hp.ne', div_real hp.ne', EReal.coe_eq_coe_iff, EReal.coe_eq_coe_iff, hn, sub_self, Real.exp_zero]
  generalize Real.exp (r b - r a) = y at hb ⊢
  constructor <;> field_simp <;> ring

/-- A share is a nonnegative real. -/
theorem share_real (hr : ∀ j, ∃ r : ℝ, l j = r) (e : Fin 8) :
    0 ≤ share a b (Ideal.logistic (l a - l b)) e ∧ share a b (Ideal.logistic (l a - l b)) e ≠ ⊤ := by
  choose r hr using hr
  rw [hr a, hr b, ← EReal.coe_sub, logistic_real]
  have hx : 0 < Real.exp (-(r a - r b)) := Real.exp_pos _
  generalize Real.exp (-(r a - r b)) = x at hx ⊢
  have h0 : 0 ≤ 1 / (1 + x) := by positivity
  have h1 : 0 ≤ 1 - 1 / (1 + x) := by
    rw [sub_nonneg, div_le_one (by positivity)]; linarith
  unfold share
  rw [← EReal.coe_one, ← EReal.coe_sub, ← EReal.coe_zero]
  generalize 1 / (1 + x) = u at h0 h1 ⊢
  generalize 1 - u = v at h1 ⊢
  have e1 : (if a = e then (u : EReal) else ((0 : ℝ) : EReal)) = ((if a = e then u else 0 : ℝ) : EReal) := by split <;> rfl
  have e2 : (if b = e then (v : EReal) else ((0 : ℝ) : EReal)) = ((if b = e then v else 0 : ℝ) : EReal) := by split <;> rfl
  rw [e1, e2, ← EReal.coe_add]
  refine ⟨EReal.coe_le_coe_iff.mpr (add_nonneg ?_ ?_), EReal.coe_ne_top _⟩ <;> split <;> first | assumption | exact le_rfl

end Cert.MoeMath

end
-- ==== Proof.KernelStages.lean ====
/-
  The kernel's own computations at an index, over the reals.
-/
module

public import proofs.«01_k».proof.Proof.Launch
public import proofs.«01_k».proof.Proof.Shares
public import Idealize.ShloMosaic.Lib.Pointwise

@[expose] public section

noncomputable section

namespace Cert.MoeKer

open Cert.KernelIdeal Cert.KernelIdeal.Gen Idealize.ShloMosaic Cert.MoeMath

variable (x : Vec Ideal S512x2048 .f32) (l : Vec Ideal S1x2048 .f32) (r : Vec Ideal S2048x8 .f32)

theorem norm_at (n : Fin 512) (d : Fin 2048) : k0_pay3 x l (ix2 n d)
    = x (ix2 n d) * Ideal.rsqrt (Ideal.div (∑ y : Fin 2048, x (ix2 n y) * x (ix2 n y)) (Ideal.ofBits .f32 1157627904#32)
        + Ideal.ofBits .f32 897988541#32) * l (ix2 0 d) := by
  pointwise [k0_pay3]
theorem norm_same (j) : k0_pay4 x l j = k0_pay3 x l j := by
  idx_vars j
  pointwise [k0_pay4, k0_pay3]
theorem logit_at (f : Vec Ideal S512x2048 .f32) (n : Fin 512) (d : Fin 8) : k0_pay5 f r (ix2 n d) = ∑ y : Fin 2048, f (ix2 n y) * r (ix2 y d) := by
  pointwise [k0_pay5]

theorem first_at (f : Vec Ideal S512x2048 .f32) (n : Fin 512) : k0_pay10 f r (ix2 n 0)
    = Finset.fold IntOp.minsi (2147483647#32) (fun y : Fin 8 => if k0_pay5 f r (ix2 n y)
        = Finset.fold max (Ideal.ofBits .f32 4286578688#32) (fun z : Fin 8 => k0_pay5 f r (ix2 n z)) Finset.univ
        then BitVec.ofNat 32 y.val else 8#32) Finset.univ := by
  pointwise [k0_pay10, k0_pay7, k0_pay6]
theorem masked_at (f : Vec Ideal S512x2048 .f32) (n : Fin 512) (y : Fin 8) : k0_pay8 f r (ix2 n y)
    = Scalar.select (IntOp.cmpi .eq (BitVec.ofNat 32 y.val) (k0_pay10 f r (ix2 n 0))) (Ideal.ofBits .f32 4286578688#32) (k0_pay5 f r (ix2 n y)) := by
  pointwise [k0_pay8, k0_pay10]
theorem second_at (f : Vec Ideal S512x2048 .f32) (n : Fin 512) : k0_pay11 f r (ix2 n 0)
    = Finset.fold IntOp.minsi (2147483647#32) (fun y : Fin 8 => if k0_pay8 f r (ix2 n y)
        = Finset.fold max (Ideal.ofBits .f32 4286578688#32) (fun z : Fin 8 => k0_pay8 f r (ix2 n z)) Finset.univ
        then BitVec.ofNat 32 y.val else 8#32) Finset.univ := by
  pointwise [k0_pay11, k0_pay9]
theorem weight_at (f : Vec Ideal S512x2048 .f32) (n : Fin 512) : k0_pay12 f r (ix2 n 0)
    = Ideal.logistic (Finset.fold max (Ideal.ofBits .f32 4286578688#32) (fun z : Fin 8 => k0_pay5 f r (ix2 n z)) Finset.univ
      - Finset.fold max (Ideal.ofBits .f32 4286578688#32) (fun z : Fin 8 => k0_pay8 f r (ix2 n z)) Finset.univ) := by
  pointwise [k0_pay12, k0_pay9, k0_pay6]

theorem shared_at (f : Vec Ideal S512x2048 .f32) (g u : Vec Ideal S2048x512 .f32) (d : Vec Ideal S512x1024 .f32) (n : Fin 512) (o : Fin 1024) :
    k0_pay14 f (k0_pay13 g) u d (ix2 n o)
      = ∑ h : Fin 512, ((∑ y : Fin 2048, f (ix2 n y) * g (ix2 y h)) * Ideal.logistic (∑ y : Fin 2048, f (ix2 n y) * g (ix2 y h))
        * ∑ y : Fin 2048, f (ix2 n y) * u (ix2 y h)) * d (ix2 h o) := by
  pointwise [k0_pay14, k0_pay13]
theorem act_at (f : Vec Ideal S512x2048 .f32) (g u : Vec Ideal S1x2048x512 .f32) (n : Fin 512) (h : Fin 512) : k0_pay15 f g u (ix2 n h)
    = (∑ y : Fin 2048, f (ix2 n y) * g (ix3 0 y h)) * Ideal.logistic (∑ y : Fin 2048, f (ix2 n y) * g (ix3 0 y h))
        * ∑ y : Fin 2048, f (ix2 n y) * u (ix3 0 y h) := by
  pointwise [k0_pay15]
theorem add_at (q : Vec Ideal S512x512 .f32) (w1 c1 : Vec Ideal S512x1 .f32) (c2 : Vec Ideal S512x1 .i1) (one : Ideal .f32)
    (acc : Vec Ideal S512x1024 .f32) (d : Vec Ideal S1x512x1024 .f32) (n : Fin 512) (o : Fin 1024) : k0_pay1 q w1 c1 c2 one acc d (ix2 n o)
    = acc (ix2 n o) + ∑ h : Fin 512, q (ix2 n h) * (c1 (ix2 n 0) + Scalar.select (c2 (ix2 n 0)) (one - w1 (ix2 n 0)) 0) * d (ix3 0 h o) := by
  pointwise [k0_pay1]
theorem one_at (e : BitVec 32) (w : Vec Ideal S512x1 .f32) (i : Vec Ideal S512x1 .i32) (n : Fin 512) :
    k0_pay16 e w i (ix2 n 0) = Scalar.select (IntOp.cmpi .eq (i (ix2 n 0)) e) (w (ix2 n 0)) 0 := by
  pointwise [k0_pay16]
theorem two_at (e : BitVec 32) (i : Vec Ideal S512x1 .i32) (n : Fin 512) : k0_pay17 (F := Ideal) e i (ix2 n 0) = IntOp.cmpi .eq (i (ix2 n 0)) e := by
  pointwise [k0_pay17]
theorem last_at (a : Vec Ideal S512x1024 .f32) (s p : Vec Ideal S1x1024 .f32) (n : Fin 512) (o : Fin 1024) : k0_pay2 a s p (ix2 n o)
    = a (ix2 n o) * s (ix2 0 o) * Ideal.rsqrt (Ideal.div (∑ x : Fin 1024, a (ix2 n x) * s (ix2 0 x) * (a (ix2 n x) * s (ix2 0 x)))
        (Ideal.ofBits .f32 1149239296#32) + Ideal.ofBits .f32 897988541#32) * p (ix2 0 o) := by
  pointwise [k0_pay2]

/-! ## The two choices -/

variable {f : Vec Ideal S512x2048 .f32} {a b : Fin 8} {n : Fin 512}

theorem select_if (p : Prop) [Decidable p] (u v : EReal) : Scalar.select (if p then 1#1 else 0#1) u v = if p then u else v := by
  by_cases h : p
  · rw [if_pos h, if_pos h]; rfl
  · rw [if_neg h, if_neg h]; rfl

theorem first_choice (ha : First (fun _ => True) (fun j => k0_pay5 f r (ix2 n j)) a) : k0_pay10 f r (ix2 n 0) = BitVec.ofNat 32 a.val := by
  rw [first_at, bits_bot, fold_max_first ha]
  exact fold_min_first ha

theorem masked_row (ha : First (fun _ => True) (fun j => k0_pay5 f r (ix2 n j)) a) (y : Fin 8) :
    k0_pay8 f r (ix2 n y) = if y = a then ⊥ else k0_pay5 f r (ix2 n y) := by
  rw [masked_at, first_choice r ha, bits_bot, place_eq]
  exact select_if _ _ _

theorem masked_first (hr : ∀ j, ∃ t : ℝ, k0_pay5 f r (ix2 n j) = t) (ha : First (fun _ => True) (fun j => k0_pay5 f r (ix2 n j)) a)
    (hb : First (· ≠ a) (fun j => k0_pay5 f r (ix2 n j)) b) : First (fun _ => True) (fun j => k0_pay8 f r (ix2 n j)) b := by
  rw [show (fun j => k0_pay8 f r (ix2 n j)) = fun j => if j = a then ⊥ else k0_pay5 f r (ix2 n j) from funext (masked_row r ha)]
  exact First.masked hr hb

theorem second_choice (hr : ∀ j, ∃ t : ℝ, k0_pay5 f r (ix2 n j) = t) (ha : First (fun _ => True) (fun j => k0_pay5 f r (ix2 n j)) a)
    (hb : First (· ≠ a) (fun j => k0_pay5 f r (ix2 n j)) b) : k0_pay11 f r (ix2 n 0) = BitVec.ofNat 32 b.val := by
  have h := masked_first r hr ha hb
  rw [second_at, bits_bot, fold_max_first h]
  exact fold_min_first h

theorem weight_choice (hr : ∀ j, ∃ t : ℝ, k0_pay5 f r (ix2 n j) = t) (ha : First (fun _ => True) (fun j => k0_pay5 f r (ix2 n j)) a)
    (hb : First (· ≠ a) (fun j => k0_pay5 f r (ix2 n j)) b) :
    k0_pay12 f r (ix2 n 0) = Ideal.logistic (k0_pay5 f r (ix2 n a) - k0_pay5 f r (ix2 n b)) := by
  have h := masked_first r hr ha hb
  rw [weight_at, bits_bot, fold_max_first ha, fold_max_first h, masked_row r ha, if_neg hb.1]

/-- One step adds the expert's output, weighted by its share. -/
theorem step_at (fn : Vec Ideal S512x2048 .f32) (acc : Vec Ideal S512x1024 .f32) (g u : Vec Ideal S1x2048x512 .f32) (d : Vec Ideal S1x512x1024 .f32)
    (hr : ∀ j, ∃ t : ℝ, k0_pay5 f r (ix2 n j) = t) (ha : First (fun _ => True) (fun j => k0_pay5 f r (ix2 n j)) a)
    (hb : First (· ≠ a) (fun j => k0_pay5 f r (ix2 n j)) b) (e : Fin 8) (o : Fin 1024) :
    Cert.Moe.stepAcc e.val fn (k0_pay10 f r) (k0_pay11 f r) (k0_pay12 f r) acc g u d (ix2 n o)
      = acc (ix2 n o) + share a b (Ideal.logistic (k0_pay5 f r (ix2 n a) - k0_pay5 f r (ix2 n b))) e
        * ∑ h : Fin 512, k0_pay15 fn g u (ix2 n h) * d (ix3 0 h o) := by
  have hs := share_real (a := a) (b := b) hr e
  have hc : k0_pay16 (BitVec.ofNat 32 e.val) (k0_pay12 f r) (k0_pay10 f r) (ix2 n 0)
      + Scalar.select (k0_pay17 (F := Ideal) (BitVec.ofNat 32 e.val) (k0_pay11 f r) (ix2 n 0))
          ((FloatOps.ofBits .f32 1065353216#32 : Ideal .f32) - k0_pay12 f r (ix2 n 0)) 0
      = share a b (Ideal.logistic (k0_pay5 f r (ix2 n a) - k0_pay5 f r (ix2 n b))) e := by
    rw [one_at, two_at, first_choice r ha, second_choice r hr ha hb, weight_choice r hr ha hb, place_eq, place_eq,
      show (FloatOps.ofBits .f32 1065353216#32 : Ideal .f32) = (1 : EReal) from Ideal.ofBits_one_f32]
    exact congrArg₂ (· + ·) (select_if _ _ _) (select_if _ _ _)
  unfold Cert.Moe.stepAcc
  rw [add_at, hc, mul_sum _ _ hs.1 hs.2]
  refine congrArg _ (Finset.sum_congr rfl fun h _ => ?_)
  rw [mul_comm (k0_pay15 fn g u (ix2 n h)), mul_assoc]

end Cert.MoeKer

end
-- ==== Proof.RefValue.lean ====
/-
  The reference's weight of an expert at a token, from the logits: the first and the second choice and the logistic weight.
-/
module

public import proofs.«01_k».proof.Proof.RefStages
public import proofs.«01_k».proof.Proof.Shares

@[expose] public section

noncomputable section

namespace Cert.MoeRef

open Cert.ReferenceIdeal Cert.ReferenceIdeal.Gen Idealize.ShloMosaic Cert.MoeMath

theorem probs_soft (l : FVec Ideal S512x8 .f32) (n : Fin 512) (j : Fin 8) : probs l (ix2 n j) = soft (fun j => l (ix2 n j)) j := by
  rw [probs_at, expo_at, bits_bot]
  simp only [expo_at, bits_bot]
  rfl

/-- A truth value as a number. -/
theorem hot_eq (j e : Fin 8) : FloatOps.uitofp (F := Ideal) .f32 (IntOp.cmpi .eq (BitVec.ofNat 32 j.val) (BitVec.ofNat 32 e.val))
    = if j = e then (1 : EReal) else 0 := by
  rw [place_eq]; split
  · show (((1#1).toNat : ℝ) : EReal) = 1; simp
  · show (((0#1).toNat : ℝ) : EReal) = 0; simp

/-- The greatest probabilities stand where the greatest logits do. -/
theorem places (l : FVec Ideal S512x8 .f32) (n : Fin 512) (hr : ∀ j, ∃ r : ℝ, l (ix2 n j) = r) {a b : Fin 8}
    (ha : First (fun _ => True) (fun j => l (ix2 n j)) a) (hb : First (· ≠ a) (fun j => l (ix2 n j)) b) (k : Fin 2) :
    place (probs l) n k = ![a, b] k := by
  have hp : soft (fun j => l (ix2 n j)) = fun j => probs l (ix2 n j) := (funext (probs_soft l n)).symm
  have h1 := First.soft hr ha ha
  have h2 := First.soft hr ha hb
  rw [hp] at h1 h2
  exact sorted_two h1 h2 k

/-- Two numbers over their sum. -/
theorem weights_two (t : FVec Ideal S512x2 .f32) (n : Fin 512) (k : Fin 2) :
    weights t (ix2 n k) = Ideal.div (t (ix2 n k)) (t (ix2 n 0) + t (ix2 n 1)) := by
  rw [weights_at, Fin.sum_univ_two]

theorem comb_two (w : FVec Ideal S512x2 .f32) (i : IVec S512x2 32) (n : Fin 512) {a b : Fin 8} (ha : i (ix2 n 0) = BitVec.ofNat 32 a.val)
    (hb : i (ix2 n 1) = BitVec.ofNat 32 b.val) {u : EReal} (h0 : w (ix2 n 0) = u) (h1 : w (ix2 n 1) = 1 - u) (e : Fin 8) :
    comb w i (ix2 e n) = share a b u e := by
  rw [comb_at, Fin.sum_univ_two, ha, hb, h0, h1, hot_eq, hot_eq, share]
  congr 1 <;> split <;> simp

/-- The reference's weights, when the logits of a token are real. -/
theorem comb_share (l : FVec Ideal S512x8 .f32) (n : Fin 512) (hr : ∀ j, ∃ r : ℝ, l (ix2 n j) = r) {a b : Fin 8}
    (ha : First (fun _ => True) (fun j => l (ix2 n j)) a) (hb : First (· ≠ a) (fun j => l (ix2 n j)) b) (e : Fin 8) :
    comb (weights (top (probs l))) (topAt (probs l)) (ix2 e n)
      = share a b (Ideal.logistic (l (ix2 n a) - l (ix2 n b))) e := by
  obtain ⟨h0, h1⟩ := soft_first (b := b) hr ha
  have p0 : place (probs l) n 0 = a := places l n hr ha hb 0
  have p1 : place (probs l) n 1 = b := places l n hr ha hb 1
  have t0 : top (probs l) (ix2 n 0) = soft (fun j => l (ix2 n j)) a := by rw [top_at, p0, probs_soft]
  have t1 : top (probs l) (ix2 n 1) = soft (fun j => l (ix2 n j)) b := by rw [top_at, p1, probs_soft]
  refine comb_two _ _ n (by rw [topAt_at, p0]) (by rw [topAt_at, p1]) ?_ ?_ e
  · rw [weights_two, t0, t1]; exact h0
  · rw [weights_two, t0, t1]; exact h1

end Cert.MoeRef

end
-- ==== Proof.Value.lean ====
/-
  What the kernel leaves is what the reference computes, when the first scale and the router's matrix are real.
-/
module

public import proofs.«01_k».proof.Proof.Operands
public import proofs.«01_k».proof.Proof.KernelStages
public import proofs.«01_k».proof.Proof.RefValue

@[expose] public section

noncomputable section

namespace Cert.Moe

open Cert.KernelIdeal Cert.KernelIdeal.Gen
open Idealize.ShloMosaic Cert.MoeMath
open Idealize.ShloMosaic.TcCoe

variable (m : (ℓ : Loc nD τ sig) → Buf (Elt Ideal) ℓ) (c : Dev nD)

/-- The arguments, as the reference takes them. -/
abbrev a0 : FVec Ideal S1x2048x512 .f32 := m ((c : Thread nD τ).loc main_arg0)
abbrev a1 : FVec Ideal S2048 .f32 := m ((c : Thread nD τ).loc main_arg1)
abbrev a2 : FVec Ideal S2048x8 .f32 := m ((c : Thread nD τ).loc main_arg2)
abbrev a3 : FVec Ideal S2048x512 .f32 := m ((c : Thread nD τ).loc main_arg3)
abbrev a4 : FVec Ideal S2048x512 .f32 := m ((c : Thread nD τ).loc main_arg4)
abbrev a5 : FVec Ideal S512x1024 .f32 := m ((c : Thread nD τ).loc main_arg5)
abbrev a6 : FVec Ideal S8x2048x512 .f32 := m ((c : Thread nD τ).loc main_arg6)
abbrev a7 : FVec Ideal S8x2048x512 .f32 := m ((c : Thread nD τ).loc main_arg7)
abbrev a8 : FVec Ideal S8x512x1024 .f32 := m ((c : Thread nD τ).loc main_arg8)
abbrev a9 : FVec Ideal S1024 .f32 := m ((c : Thread nD τ).loc main_arg9)
abbrev a10 : FVec Ideal S1024 .f32 := m ((c : Thread nD τ).loc main_arg10)

/-- The tokens as the reference normalises them. -/
abbrev toks : FVec Ideal S512x2048 .f32 := MoeRef.flat (a0 m c) (a1 m c)

/-- The reference's logits. -/
abbrev lg : FVec Ideal S512x8 .f32 := MoeRef.logits (a2 m c) (toks m c)

theorem norm_eq : k0_pay3 (opX m c) (opLn m c) = toks m c := by
  funext j; idx_vars j
  rename' j0 => n, j1 => d
  refine (MoeKer.norm_at _ _ n d).trans (Eq.trans ?_ (MoeRef.flat_at _ _ n d).symm)
  rw [MoeRef.normed_at, opLn_at, opX_at, mul_comm]
  simp only [opX_at]

theorem vFn_eq (j) : vFn m c j = toks m c j := (MoeKer.norm_same _ _ j).trans (congrFun (norm_eq m c) j)

theorem logit_eq (n : Fin 512) (j : Fin 8) : k0_pay5 (k0_pay3 (opX m c) (opLn m c)) (opR m c) (ix2 n j) = lg m c (ix2 n j) := by
  rw [MoeKer.logit_at, norm_eq, opR_eq]
  exact (MoeRef.logits_at _ _ n j).symm

/-- With a real scale and a real router every logit is real. -/
theorem logit_real (h1 : ∀ d : Fin 2048, ∃ r : ℝ, a1 m c (ix1 d) = r) (h2 : ∀ (d : Fin 2048) (e : Fin 8), ∃ r : ℝ, a2 m c (ix2 d e) = r)
    (n : Fin 512) (j : Fin 8) : ∃ r : ℝ, lg m c (ix2 n j) = r := by
  have h := dot_real (fun y : Fin 2048 => toks m c (ix2 n y)) (fun y => a2 m c (ix2 y j)) (fun y => by
    obtain ⟨u, hu⟩ := normed_real (fun y : Fin 2048 => MoeRef.tokens (a0 m c) (ix3 0 n y)) y (Ideal.ofBits .f32 1157627904#32)
      (Ideal.ofBits .f32 897988541#32) bits_len bits_eps
    obtain ⟨v, hv⟩ := h1 y
    refine ⟨v * u, ?_⟩
    refine (MoeRef.flat_at _ _ n y).trans ((MoeRef.normed_at _ _ n y).trans ?_)
    rw [hv, EReal.coe_mul]
    exact congrArg _ hu) (fun y => h2 y j)
  obtain ⟨y, hy⟩ := h
  exact ⟨y, (MoeRef.logits_at _ _ n j).trans hy⟩

/-- What the first point puts into the accumulator: the shared expert's output. -/
theorem acc_zero (n : Fin 512) (o : Fin 1024) : accAt m c 0 (ix2 n o)
    = MoeRef.shared (a3 m c) (a4 m c) (a5 m c) (MoeRef.normed (a0 m c) (a1 m c)) (ix3 0 n o) := by
  refine (MoeKer.shared_at _ _ _ _ n o).trans (Eq.trans ?_ (MoeRef.shared_at _ _ _ _ n o).symm)
  rw [opSg_eq, opSu_eq, opSd_eq]
  simp only [show ∀ y : Fin 2048, k0_pay4 (opX m c) (opLn m c) (ix2 n y) = MoeRef.normed (a0 m c) (a1 m c) (ix3 0 n y) from
    fun y => (vFn_eq m c _).trans (MoeRef.flat_at _ _ n y)]

/-- One expert's output, as a step computes it from that expert's weights. -/
theorem expert_of (fn : Vec Ideal S512x2048 .f32) (t : FVec Ideal S512x2048 .f32) (g u : Vec Ideal S1x2048x512 .f32) (d : Vec Ideal S1x512x1024 .f32)
    (w6 w7 : FVec Ideal S8x2048x512 .f32) (w8 : FVec Ideal S8x512x1024 .f32) (e : Fin 8) (hf : ∀ j, fn j = t j)
    (hg : ∀ y h, g (ix3 0 y h) = w6 (ix3 e y h)) (hu : ∀ y h, u (ix3 0 y h) = w7 (ix3 e y h)) (hd : ∀ y h, d (ix3 0 y h) = w8 (ix3 e y h))
    (n : Fin 512) (o : Fin 1024) :
    (∑ h : Fin 512, k0_pay15 fn g u (ix2 n h) * d (ix3 0 h o)) = MoeRef.experts w6 w7 w8 t (ix3 e n o) := by
  refine Eq.trans (Finset.sum_congr rfl fun h _ => ?_) (MoeRef.experts_at _ _ _ _ e n o).symm
  rw [MoeKer.act_at, hd]
  simp only [hg, hu, hf]
  simp only [mul_comm (t _)]

theorem expert_at (e : Fin 8) (n : Fin 512) (o : Fin 1024) :
    (∑ h : Fin 512, k0_pay15 (vFn m c) (blkA (gM.view.read (Elt Ideal) (opG m c)) e.val) (blkA (uM.view.read (Elt Ideal) (opU m c)) e.val) (ix2 n h)
      * blkB (dM.view.read (Elt Ideal) (opD m c)) e.val (ix3 0 h o))
      = MoeRef.experts (a6 m c) (a7 m c) (a8 m c) (toks m c) (ix3 e n o) :=
  expert_of _ _ _ _ _ _ _ _ e (vFn_eq m c) (gate_at m c e) (up_at m c e) (down_at m c e) n o

/-- The reference's weight of an expert at a token. -/
abbrev wt : FVec Ideal Cert.ReferenceIdeal.S8x512 .f32 := MoeRef.comb (MoeRef.weights (MoeRef.top (MoeRef.probs (lg m c)))) (MoeRef.topAt (MoeRef.probs (lg m c)))

/-- One step, in the reference's terms. -/
theorem acc_step (hr : ∀ (n : Fin 512) (j : Fin 8), ∃ r : ℝ, lg m c (ix2 n j) = r) (e : Fin 8) (n : Fin 512) (o : Fin 1024) :
    accAt m c (e.val + 1) (ix2 n o) = accAt m c e.val (ix2 n o)
      + wt m c (ix2 e n) * MoeRef.experts (a6 m c) (a7 m c) (a8 m c) (toks m c) (ix3 e n o) := by
  have hl : (fun j => k0_pay5 (k0_pay3 (opX m c) (opLn m c)) (opR m c) (ix2 n j)) = fun j => lg m c (ix2 n j) := funext (logit_eq m c n)
  obtain ⟨a, ha⟩ := exists_first (fun _ => True) (fun j => lg m c (ix2 n j)) ⟨0, trivial⟩
  obtain ⟨b, hb⟩ := exists_first (· ≠ a) (fun j => lg m c (ix2 n j)) ⟨a + 1, by clear ha; revert a; decide⟩
  have hw : wt m c (ix2 e n) = _ := MoeRef.comb_share (lg m c) n (hr n) ha hb e
  rw [hw, ← expert_at m c e n o, ← logit_eq m c n a, ← logit_eq m c n b]
  exact MoeKer.step_at (opR m c) (vFn m c) (accAt m c e.val) _ _ _ (fun j => by rw [logit_eq]; exact hr n j) (by rw [hl]; exact ha)
    (by rw [hl]; exact hb) e o

/-- The accumulator after the last step. -/
theorem acc_last (hr : ∀ (n : Fin 512) (j : Fin 8), ∃ r : ℝ, lg m c (ix2 n j) = r) (n : Fin 512) (o : Fin 1024) :
    accAt m c 8 (ix2 n o) = MoeRef.shared (a3 m c) (a4 m c) (a5 m c) (MoeRef.normed (a0 m c) (a1 m c)) (ix3 0 n o)
      + MoeRef.routed (wt m c) (MoeRef.experts (a6 m c) (a7 m c) (a8 m c) (toks m c)) (ix2 n o) := by
  have key : ∀ k (hk : k ≤ 8), accAt m c k (ix2 n o)
      = MoeRef.shared (a3 m c) (a4 m c) (a5 m c) (MoeRef.normed (a0 m c) (a1 m c)) (ix3 0 n o)
        + ∑ e : Fin k, wt m c (ix2 (e.castLE hk) n) * MoeRef.experts (a6 m c) (a7 m c) (a8 m c) (toks m c) (ix3 (e.castLE hk) n o) := by
    intro k
    induction k with
    | zero => intro hk; rw [acc_zero]; simp
    | succ k ih =>
      intro hk
      rw [Fin.sum_univ_castSucc, ← add_assoc]
      refine (acc_step m c hr ⟨k, hk⟩ n o).trans ?_
      exact congrArg (· + _) (ih (Nat.le_of_succ_le hk))
  rw [MoeRef.routed_at]
  exact key 8 le_rfl

/-- The kernel's result is the reference's. -/
theorem result_eq (hr : ∀ (n : Fin 512) (j : Fin 8), ∃ r : ℝ, lg m c (ix2 n j) = r) :
    shapeCast S1x512x1024 (result m c) shapeCasts_S512x1024_S1x512x1024
      = MoeRef.whole (a0 m c) (a1 m c) (a2 m c) (a3 m c) (a4 m c) (a5 m c) (a6 m c) (a7 m c) (a8 m c) (a9 m c) (a10 m c) := by
  have hs : ∀ (n : Fin 512) (o : Fin 1024), accAt m c 8 (ix2 n o) * opScale m c (ix2 0 o)
      = MoeRef.scaled (a9 m c) (MoeRef.shared (a3 m c) (a4 m c) (a5 m c) (MoeRef.normed (a0 m c) (a1 m c)))
          (MoeRef.routed (wt m c) (MoeRef.experts (a6 m c) (a7 m c) (a8 m c) (toks m c))) (ix3 0 n o) := fun n o => by
    rw [MoeRef.scaled_at, acc_last m c hr, opScale_at]
  funext j; idx_vars j
  rename' j0 => z, j1 => n, j2 => o
  have hz : z = 0 := Subsingleton.elim _ _
  subst hz
  have h1 : shapeCast S1x512x1024 (result m c) shapeCasts_S512x1024_S1x512x1024 (ix3 0 n o) = result m c (ix2 n o) := by pointwise
  refine h1.trans ((MoeKer.last_at _ _ _ n o).trans (Eq.trans ?_ (MoeRef.final_at _ _ n o).symm))
  simp only [hs]
  rw [opPost_at, mul_comm]

end Cert.Moe

end
-- ==== Proof.lean ====
/-
  The proof of `Cert.Claim`: the kernel's run, the run of the same text over the reals, the reference's run.
-/
module

public import proofs.«01_k».proof.Defs
public import proofs.«01_k».proof.Proof.Gen.Kernel
public import proofs.«01_k».proof.Proof.Gen.Kernel.Launch
public import proofs.«01_k».proof.Proof.Gen.Kernel.Frame
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init
import all proofs.«01_k».proof.Kernel
import all proofs.«01_k».proof.KernelIdeal

@[expose] public section

set_option maxRecDepth 65536

noncomputable section

namespace Cert.Proof

open Idealize.ShloMosaic Idealize.SL.Sem

/-- The kernel and its reading over the reals are one text: at one number format they are one program. -/
theorem defs_same {F : FTy → Type} [FloatOps F] [hK : Cert.Kernel.Facts] [hI : Cert.KernelIdeal.Facts] :
    Cert.Kernel.defs (F := F) = Cert.KernelIdeal.defs (F := F) := by sl_kernel_rfl
theorem main_same {F : FTy → Type} [FloatOps F] [hK : Cert.Kernel.Facts] [hI : Cert.KernelIdeal.Facts] :
    Cert.Kernel.main (F := F) = Cert.KernelIdeal.main (F := F) := by sl_kernel_rfl

theorem quiet_kernel : @Cert.quiescent_Kernel Cert.Kernel.Gen.facts := fun m g _ => by
  have h := Cert.Moe.quiet (F := Bits) m g
  rw [← main_same (F := Bits), ← defs_same (F := Bits)] at h
  exact h

theorem quiet_ideal : @Cert.quiescent_KernelIdeal Cert.KernelIdeal.Gen.facts := fun m g _ => Cert.Moe.quiet (F := Ideal) m g

/-- The reference declares no semaphore, so its counters cannot be other than zero. -/
theorem quiet_reference : @Cert.quiescent_ReferenceIdeal Cert.ReferenceIdeal.Gen.facts := fun m g _ =>
  (θ_run _ _ _).mono (fun r h => ⟨fun c => (h c).2, sem_eq_zero_of_no_sems (by decide) r.2⟩)
    (Cert.ReferenceIdeal.Value.run (F := Ideal) m g)

/-- The precondition's side conditions. -/
theorem pre_facts : Cert.Pre_weights_finite.Facts := ⟨by decide, by decide, by decide, by decide⟩

section
open Cert.KernelIdeal Cert.KernelIdeal.Gen Cert.Moe Idealize.ShloMosaic.TcCoe

/-- Under the precondition the first scale and the router's matrix are real. -/
theorem weights_real (m : (ℓ : Loc Cert.KernelIdeal.nD Cert.KernelIdeal.τ Cert.KernelIdeal.sig) → Buf (Elt Ideal) ℓ)
    (h : @Cert.Pre_KernelIdeal_weights_finite pre_facts m) (c : Dev Cert.KernelIdeal.nD) (d : Fin 2048) (e : Fin 8) :
    (∃ r : ℝ, a1 m c (ix1 d) = r) ∧ ∃ r : ℝ, a2 m c (ix2 d e) = r := by
  have k := congrFun (h c) (ix2 d e)
  have hand : ∀ p q : Bool, BitVec.ofBool p &&& BitVec.ofBool q = 1#1 → p = true ∧ q = true := by decide
  have k' : BitVec.ofBool (decide (max (a1 m c (ix1 d)) (-(a1 m c (ix1 d))) < Ideal.ofBits .f32 0x7F800000#32))
      &&& BitVec.ofBool (decide (max (a2 m c (ix2 d e)) (-(a2 m c (ix2 d e))) < Ideal.ofBits .f32 0x7F800000#32)) = 1#1 := by
    refine Eq.trans ?_ k
    symm
    pointwise [Cert.Pre_weights_finite.fn]
    rfl
  obtain ⟨p, q⟩ := hand _ _ k'
  rw [MoeMath.bits_top] at p q
  exact ⟨MoeMath.real_of_abs_lt (of_decide_eq_true p), MoeMath.real_of_abs_lt (of_decide_eq_true q)⟩

/-- The kernel's run over the reals leaves the last point's result, with a leading axis of one. -/
theorem value_run (m : (ℓ : Loc Cert.KernelIdeal.nD Cert.KernelIdeal.τ Cert.KernelIdeal.sig) → Buf (Elt Ideal) ℓ) (g : Dev Cert.KernelIdeal.nD → PrngReg) :
    θ_run Cert.KernelIdeal.defs (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v5)
        = shapeCast Cert.KernelIdeal.S1x512x1024 (result m c) Cert.KernelIdeal.Gen.facts.shapeCasts_S512x1024_S1x512x1024) :=
  (θ_run _ _ _).mono (fun r h c => ((h.1 c).2 main_v5 (Pipeline.mem_restRefs_of main_v5 (by decide) (by decide))).trans (tail_eq m c))
    (run_main (F := Ideal) m g)

end

/-- The kernel over the reals computes the reference. -/
theorem same_value : @Cert.algebraic_KernelIdeal_ReferenceIdeal_pre_weights_finite Cert.KernelIdeal.Gen.facts Cert.ReferenceIdeal.Gen.facts pre_facts := by
  intro m g m' g' hpre hagree
  refine ⟨fun c => shapeCast Cert.KernelIdeal.S1x512x1024 (Cert.Moe.result m c) Cert.KernelIdeal.Gen.facts.shapeCasts_S512x1024_S1x512x1024,
    θ_run_mono (θ_run_and (value_run m g) (Cert.Moe.quiet (F := Ideal) m g)) fun r h c => ⟨h.1 c, h.2.1 c⟩,
    (θ_run _ _ _).mono (fun r h c => ⟨(h c).1.trans ?_, (h c).2⟩) (Cert.ReferenceIdeal.Value.run (F := Ideal) m' g')⟩
  refine (Cert.MoeRef.whole_eq m' c).trans (Eq.trans ?_ (Cert.Moe.result_eq m c (Cert.Moe.logit_real m c
    (fun d => (weights_real m hpre c d 0).1) fun d e => (weights_real m hpre c d e).2)).symm)
  obtain ⟨h0, h1, h2, h3, h4, h5, h6, h7, h8, h9, h10⟩ := hagree c
  rw [h0, h1, h2, h3, h4, h5, h6, h7, h8, h9, h10]

theorem claim : Cert.Claim := ⟨Cert.Kernel.Gen.facts, Cert.KernelIdeal.Gen.facts, Cert.ReferenceIdeal.Gen.facts, pre_facts,
  quiet_kernel, quiet_ideal, fun m g _ => quiet_ideal m g trivial, quiet_reference, fun m g _ => quiet_reference m g trivial, trivial, same_value⟩

end Cert.Proof

end
